-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_vocabulary [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_vocabulary [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel)
    ∧ quiescent_KernelIdeal (hKernelIdeal := hKernelIdeal)
    ∧ quiescent_KernelIdeal_pre_in_vocabulary (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal_pre_in_vocabulary (hKernelIdeal := hKernelIdeal) (hReferenceIdeal := hReferenceIdeal) (hPre_in_vocabulary := hPre_in_vocabulary)
-- ==== Pre_in_vocabulary.lean ====
abbrev S1024x200 : Shape := ⟨2, ![1024, 200]⟩
abbrev S1024x200x109 : Shape := ⟨3, ![1024, 200, 109]⟩
abbrev S27x120 : Shape := ⟨2, ![27, 120]⟩
abbrev S2x103 : Shape := ⟨2, ![2, 103]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S1024x200x109 .f32) (main_arg2 : FVec F S27x120 .f32) (main_arg3 : FVec F S2x103 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 27#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S1024x200x109 : Shape := ⟨3, ![1024, 200, 109]⟩
abbrev S27x120 : Shape := ⟨2, ![27, 120]⟩
abbrev S2x103 : Shape := ⟨2, ![2, 103]⟩
abbrev S200x128 : Shape := ⟨2, ![200, 128]⟩
abbrev S_ : Shape := ⟨0, ![]⟩
abbrev S109x128 : Shape := ⟨2, ![109, 128]⟩
abbrev S6 : Shape := ⟨1, ![6]⟩
abbrev S6x1 : Shape := ⟨2, ![6, 1]⟩
abbrev S6x2 : Shape := ⟨2, ![6, 2]⟩
abbrev S103x2 : Shape := ⟨2, ![103, 2]⟩
abbrev S1 : Shape := ⟨1, ![1]⟩
abbrev S2 : Shape := ⟨1, ![2]⟩
abbrev S32x128 : Shape := ⟨2, ![32, 128]⟩
abbrev S1x200x1x128 : Shape := ⟨4, ![1, 200, 1, 128]⟩
abbrev S16x200x1x128 : Shape := ⟨4, ![16, 200, 1, 128]⟩
abbrev S3200x128 : Shape := ⟨2, ![3200, 128]⟩
abbrev S204800x109 : Shape := ⟨2, ![204800, 109]⟩
abbrev S64x8x400 : Shape := ⟨3, ![64, 8, 400]⟩
abbrev S204800x128 : Shape := ⟨2, ![204800, 128]⟩
abbrev S10x3200x109 : Shape := ⟨3, ![10, 3200, 109]⟩
abbrev S4x3200x128 : Shape := ⟨3, ![4, 3200, 128]⟩
abbrev S10x8x400 : Shape := ⟨3, ![10, 8, 400]⟩
abbrev S10 : Shape := ⟨1, ![10]⟩
abbrev S4 : Shape := ⟨1, ![4]⟩
abbrev S1x3200x109 : Shape := ⟨3, ![1, 3200, 109]⟩
abbrev S3200x109 : Shape := ⟨2, ![3200, 109]⟩
abbrev S1x8x400 : Shape := ⟨3, ![1, 8, 400]⟩
abbrev S8x400 : Shape := ⟨2, ![8, 400]⟩
abbrev S8x400x1 : Shape := ⟨3, ![8, 400, 1]⟩
abbrev S8x400x32 : Shape := ⟨3, ![8, 400, 32]⟩
abbrev S3200x32 : Shape := ⟨2, ![3200, 32]⟩
abbrev S1x3200x128 : Shape := ⟨3, ![1, 3200, 128]⟩
abbrev S1024x200x128 : Shape := ⟨3, ![1024, 200, 128]⟩

abbrev nBuf : Space → Nat
  | .hbm => 54
  | .vmem => 6
  | .smem => 0
  | _ => 0

abbrev bufTy : (tb : Table) → Fin (tcTables nBuf tb) → BufTy
  | .hbm, ⟨0, _⟩ => ⟨S1024x200, .i32⟩
  | .hbm, ⟨1, _⟩ => ⟨S1024x200x109, .f32⟩
  | .hbm, ⟨2, _⟩ => ⟨S27x120, .f32⟩
  | .hbm, ⟨3, _⟩ => ⟨S2x103, .f32⟩
  | .hbm, ⟨4, _⟩ => ⟨S200x128, .f32⟩
  | .hbm, ⟨5, _⟩ => ⟨S_, .f32⟩
  | .hbm, ⟨6, _⟩ => ⟨S109x128, .f32⟩
  | .hbm, ⟨7, _⟩ => ⟨S6, .i32⟩
  | .hbm, ⟨8, _⟩ => ⟨S6, .i32⟩
  | .hbm, ⟨9, _⟩ => ⟨S_, .i32⟩
  | .hbm, ⟨10, _⟩ => ⟨S6, .i32⟩
  | .hbm, ⟨11, _⟩ => ⟨S6, .i32⟩
  | .hbm, ⟨12, _⟩ => ⟨S_, .i32⟩
  | .hbm, ⟨13, _⟩ => ⟨S6, .i32⟩
  | .hbm, ⟨14, _⟩ => ⟨S6, .i1⟩
  | .hbm, ⟨15, _⟩ => ⟨S_, .i32⟩
  | .hbm, ⟨16, _⟩ => ⟨S6, .i32⟩
  | .hbm, ⟨17, _⟩ => ⟨S6, .i32⟩
  | .hbm, ⟨18, _⟩ => ⟨S6, .i32⟩
  | .hbm, ⟨19, _⟩ => ⟨S_, .i32⟩
  | .hbm, ⟨20, _⟩ => ⟨S6, .i32⟩
  | .hbm, ⟨21, _⟩ => ⟨S6, .i1⟩
  | .hbm, ⟨22, _⟩ => ⟨S_, .i32⟩
  | .hbm, ⟨23, _⟩ => ⟨S6, .i32⟩
  | .hbm, ⟨24, _⟩ => ⟨S6, .i32⟩
  | .hbm, ⟨25, _⟩ => ⟨S6, .i32⟩
  | .hbm, ⟨26, _⟩ => ⟨S6x1, .i32⟩
  | .hbm, ⟨27, _⟩ => ⟨S6x1, .i32⟩
  | .hbm, ⟨28, _⟩ => ⟨S6x2, .i32⟩
  | .hbm, ⟨29, _⟩ => ⟨S_, .f32⟩
  | .hbm, ⟨30, _⟩ => ⟨S6, .f32⟩
  | .hbm, ⟨31, _⟩ => ⟨S109x128, .f32⟩
  | .hbm, ⟨32, _⟩ => ⟨S103x2, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S109x128, .f32⟩
  | .hbm, ⟨39, _⟩ => ⟨S_, .f32⟩
  | .hbm, ⟨40, _⟩ => ⟨S32x128, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S32x128, .f32⟩
  | .hbm, ⟨47, _⟩ => ⟨S1x200x1x128, .f32⟩
  | .hbm, ⟨48, _⟩ => ⟨S16x200x1x128, .f32⟩
  | .hbm, ⟨49, _⟩ => ⟨S3200x128, .f32⟩
  | .hbm, ⟨50, _⟩ => ⟨S204800x109, .f32⟩
  | .hbm, ⟨51, _⟩ => ⟨S64x8x400, .i32⟩
  | .hbm, ⟨52, _⟩ => ⟨S204800x128, .f32⟩
  | .hbm, ⟨53, _⟩ => ⟨S1024x200x128, .f32⟩
  | .local _ .vmem, ⟨0, _⟩ => ⟨S32x128, .f32⟩
  | .local _ .vmem, ⟨1, _⟩ => ⟨S109x128, .f32⟩
  | .local _ .vmem, ⟨2, _⟩ => ⟨S3200x128, .f32⟩
  | .local _ .vmem, ⟨3, _⟩ => ⟨S10x3200x109, .f32⟩
  | .local _ .vmem, ⟨4, _⟩ => ⟨S4x3200x128, .f32⟩
  | .local _ .vmem, ⟨5, _⟩ => ⟨S10x8x400, .i32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_c_9 : Ref sig .tc := ⟨.hbm, 41, rfl⟩
abbrev main_v26 : Ref sig .tc := ⟨.hbm, 42, rfl⟩
abbrev main_c_10 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S109x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3200x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x200 : Shape := ⟨2, ![1024, 200]⟩
abbrev S1024x200x109 : Shape := ⟨3, ![1024, 200, 109]⟩
abbrev S27x120 : Shape := ⟨2, ![27, 120]⟩
abbrev S2x103 : Shape := ⟨2, ![2, 103]⟩
abbrev S1x200x128 : Shape := ⟨3, ![1, 200, 128]⟩
abbrev S1024x200x6 : Shape := ⟨3, ![1024, 200, 6]⟩
abbrev S1024x200x103 : Shape := ⟨3, ![1024, 200, 103]⟩
abbrev S1024x200x2 : Shape := ⟨3, ![1024, 200, 2]⟩
abbrev S1024x200x8 : Shape := ⟨3, ![1024, 200, 8]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x120 : Shape := ⟨3, ![1024, 200, 120]⟩
abbrev S1024x200x128 : Shape := ⟨3, ![1024, 200, 128]⟩

abbrev nBuf : Space → Nat
  | .hbm => 35
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200x109, .f32⟩
  | .hbm, ⟨2, _⟩ => ⟨S27x120, .f32⟩
  | .hbm, ⟨3, _⟩ => ⟨S2x103, .f32⟩
  | .hbm, ⟨4, _⟩ => ⟨S1x200x128, .f32⟩
  | .hbm, ⟨5, _⟩ => ⟨S1024x200x6, .f32⟩
  | .hbm, ⟨6, _⟩ => ⟨S1024x200x103, .f32⟩
  | .hbm, ⟨7, _⟩ => ⟨S1024x200x2, .f32⟩
  | .hbm, ⟨8, _⟩ => ⟨S1024x200x8, .f32⟩
  | .hbm, ⟨9, _⟩ => ⟨S_, .i32⟩
  | .hbm, ⟨10, _⟩ => ⟨S1024x200, .i32⟩
  | .hbm, ⟨11, _⟩ => ⟨S1024x200, .i1⟩
  | .hbm, ⟨12, _⟩ => ⟨S_, .i32⟩
  | .hbm, ⟨13, _⟩ => ⟨S1024x200, .i32⟩
  | .hbm, ⟨14, _⟩ => ⟨S1024x200, .i32⟩
  | .hbm, ⟨15, _⟩ => ⟨S1024x200, .i32⟩
  | .hbm, ⟨16, _⟩ => ⟨S1024x200x1, .i32⟩
  | .hbm, ⟨17, _⟩ => ⟨S1, .i32⟩
  | .hbm, ⟨18, _⟩ => ⟨S_, .i32⟩
  | .hbm, ⟨19, _⟩ => ⟨S1024x200x1, .i32⟩
  | .hbm, ⟨20, _⟩ => ⟨S1024x200x1, .i1⟩
  | .hbm, ⟨21, _⟩ => ⟨S1x1x1, .i32⟩
  | .hbm, ⟨22, _⟩ => ⟨S1024x200x1, .i32⟩
  | .hbm, ⟨23, _⟩ => ⟨S1024x200x1, .i1⟩
  | .hbm, ⟨24, _⟩ => ⟨S1024x200x1, .i1⟩
  | .hbm, ⟨25, _⟩ => ⟨S_, .i1⟩
  | .hbm, ⟨26, _⟩ => ⟨S1024x200, .i1⟩
  | .hbm, ⟨27, _⟩ => ⟨S1024x200x120, .f32⟩
  | .hbm, ⟨28, _⟩ => ⟨S1024x200x120, .i1⟩
  | .hbm, ⟨29, _⟩ => ⟨S_, .f32⟩
  | .hbm, ⟨30, _⟩ => ⟨S1024x200x120, .f32⟩
  | .hbm, ⟨31, _⟩ => ⟨S1024x200x120, .f32⟩
  | .hbm, ⟨32, _⟩ => ⟨S1024x200x128, .f32⟩
  | .hbm, ⟨33, _⟩ => ⟨S1024x200x128, .f32⟩
  | .hbm, ⟨34, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]
-- ==== Proof.KernelIdeal.Steps.lean ====
/-
  The kernel's body as a LOOP over its 64 chunks. The printed body is the loop unrolled: ten pairs of copies in
  are started, then each chunk is collected, computed, stored and copied out, and the copies for the chunk ten
  further on are started; at the end the last four copies out are collected. Here each of those pieces is one
  definition over the chunk's number, and `body_eq` says the printed body is their sequence.
-/
module

public import proofs.«01_k».proof.Proof.Gen.KernelIdeal.Skeleton
public import Idealize.ShloMosaic.Lib.Tactic

@[expose] public section

noncomputable section

namespace Cert.KernelIdeal.Hand

open Cert.KernelIdeal Cert.KernelIdeal.Gen
open Idealize.ShloMosaic Idealize.SL.Sem

variable {F : FTy → Type} [FloatOps F]

/-! ## Where the blocks and the slots lie -/

theorem inbIdx {i : ℕ} (h : i < 64) : ∀ a, (![i, 0, 0] : Fin 3 → ℕ) a + S1x8x400.size a ≤ S64x8x400.size a
  | 0 => Nat.succ_le_of_lt h
  | 1 => le_rfl
  | 2 => le_rfl
theorem inbMod {i : ℕ} (h : i < 64) : ∀ a, (![3200 * i, 0] : Fin 2 → ℕ) a + S3200x109.size a ≤ S204800x109.size a
  | 0 => by show 3200 * i + 3200 ≤ 204800; omega
  | 1 => le_rfl
theorem inbOut {i : ℕ} (h : i < 64) : ∀ a, (![3200 * i, 0] : Fin 2 → ℕ) a + S3200x128.size a ≤ S204800x128.size a
  | 0 => by show 3200 * i + 3200 ≤ 204800; omega
  | 1 => le_rfl
theorem inbModSlot {s : ℕ} (h : s < 10) : ∀ a, (![s, 0, 0] : Fin 3 → ℕ) a + S1x3200x109.size a ≤ S10x3200x109.size a
  | 0 => Nat.succ_le_of_lt h
  | 1 => le_rfl
  | 2 => le_rfl
theorem inbIdxSlot {s : ℕ} (h : s < 10) : ∀ a, (![s, 0, 0] : Fin 3 → ℕ) a + S1x8x400.size a ≤ S10x8x400.size a
  | 0 => Nat.succ_le_of_lt h
  | 1 => le_rfl
  | 2 => le_rfl
theorem inbOutSlot {s : ℕ} (h : s < 4) : ∀ a, (![s, 0, 0] : Fin 3 → ℕ) a + S1x3200x128.size a ≤ S4x3200x128.size a
  | 0 => Nat.succ_le_of_lt h
  | 1 => le_rfl
  | 2 => le_rfl
theorem inbSem10 {s : ℕ} (h : s < 10) : ∀ a, (![s] : Fin 1 → ℕ) a + S1.size a ≤ S10.size a
  | 0 => Nat.succ_le_of_lt h
theorem inbSem4 {s : ℕ} (h : s < 4) : ∀ a, (![s] : Fin 1 → ℕ) a + S1.size a ≤ S4.size a
  | 0 => Nat.succ_le_of_lt h

/-- Block `i` of the indices in HBM. -/
abbrev idxBlk (m : Memref sig .tc .hbm S64x8x400 .i32) {i : ℕ} (h : i < 64) : Memref sig .tc .hbm S8x400 .i32 :=
  (m.slice (Rect.unit (s := S64x8x400) ![i, 0, 0] S1x8x400.size (inbIdx h)) (fun _ => rfl)).squeeze S8x400 squeezes_S1x8x400_S8x400
/-- Block `i` of the features in HBM. -/
abbrev modBlk (m : Memref sig .tc .hbm S204800x109 .f32) {i : ℕ} (h : i < 64) : Memref sig .tc .hbm S3200x109 .f32 :=
  m.slice (Rect.unit (s := S204800x109) ![3200 * i, 0] S3200x109.size (inbMod h)) (fun _ => rfl)
/-- Block `i` of the result in HBM. -/
abbrev outBlk (m : Memref sig .tc .hbm S204800x128 .f32) {i : ℕ} (h : i < 64) : Memref sig .tc .hbm S3200x128 .f32 :=
  m.slice (Rect.unit (s := S204800x128) ![3200 * i, 0] S3200x128.size (inbOut h)) (fun _ => rfl)
/-- Slot `s` of the features' ring. -/
abbrev modSlot (m : Memref sig .tc .vmem S10x3200x109 .f32) {s : ℕ} (h : s < 10) : Memref sig .tc .vmem S3200x109 .f32 :=
  (m.slice (Rect.unit (s := S10x3200x109) ![s, 0, 0] S1x3200x109.size (inbModSlot h)) (fun _ => rfl)).squeeze S3200x109 squeezes_S1x3200x109_S3200x109
/-- Slot `s` of the indices' ring. -/
abbrev idxSlot (m : Memref sig .tc .vmem S10x8x400 .i32) {s : ℕ} (h : s < 10) : Memref sig .tc .vmem S8x400 .i32 :=
  (m.slice (Rect.unit (s := S10x8x400) ![s, 0, 0] S1x8x400.size (inbIdxSlot h)) (fun _ => rfl)).squeeze S8x400 squeezes_S1x8x400_S8x400
/-- Slot `s` of the results' ring. -/
abbrev outSlot (m : Memref sig .tc .vmem S4x3200x128 .f32) {s : ℕ} (h : s < 4) : Memref sig .tc .vmem S3200x128 .f32 :=
  (m.slice (Rect.unit (s := S4x3200x128) ![s, 0, 0] S1x3200x128.size (inbOutSlot h)) (fun _ => rfl)).squeeze S3200x128 squeezes_S1x3200x128_S3200x128
/-- Cell `s` of a ring of ten, of a ring of four. -/
abbrev sem10 (m : DmaSems sig S10) {s : ℕ} (h : s < 10) : DmaSem sig :=
  ((m.slice (Rect.unit (s := S10) ![s] S1.size (inbSem10 h))).squeeze S_ squeezes_S1_S_).sem
abbrev sem4 (m : DmaSems sig S4) {s : ℕ} (h : s < 4) : DmaSem sig :=
  ((m.slice (Rect.unit (s := S4) ![s] S1.size (inbSem4 h))).squeeze S_ squeezes_S1_S_).sem

theorem m10 (i : ℕ) : i % 10 < 10 := Nat.mod_lt _ (by decide)
theorem m4 (i : ℕ) : i % 4 < 4 := Nat.mod_lt _ (by decide)

/-! ## The pieces of the body -/

/-- The programs the body is made of. -/
abbrev BodyProg (F : FTy → Type) [FloatOps F] : Type 1 := Prog (TpuEff nD τ sig (Elt F) Λ₀ .tc) PUnit

section Pieces

variable (arg0 : Memref sig .tc .hbm S64x8x400 .i32) (arg1 : Memref sig .tc .hbm S204800x109 .f32)
  (arg2 : Memref sig .tc .vmem S32x128 .f32) (arg3 : Memref sig .tc .vmem S109x128 .f32) (arg4 : Memref sig .tc .vmem S3200x128 .f32)
  (arg5 : Memref sig .tc .hbm S204800x128 .f32) (arg6 : Memref sig .tc .vmem S10x3200x109 .f32)
  (arg7 : Memref sig .tc .vmem S4x3200x128 .f32) (arg8 : Memref sig .tc .vmem S10x8x400 .i32)
  (arg9 : DmaSems sig S10) (arg10 : DmaSems sig S4) (arg11 : DmaSems sig S10)

/-- Start the two copies in of chunk `i`. -/
def inStart {i : ℕ} (h : i < 64) (k : BodyProg F) : BodyProg F :=
  .op (.enqueueDma (modBlk arg1 h) (.here (modSlot arg6 (m10 i))) (.dma (sem10 arg9 (m10 i))) (View.wordExact_bits rfl) ((View.wordExact_bits rfl).reshape _ _) ⟨Or.inl rfl, trivial⟩) fun _ =>
  .op (.enqueueDma (idxBlk arg0 h) (.here (idxSlot arg8 (m10 i))) (.dma (sem10 arg11 (m10 i))) ((View.wordExact_bits rfl).reshape _ _) ((View.wordExact_bits rfl).reshape _ _) ⟨Or.inl rfl, trivial⟩) fun _ => k

/-- Collect the two copies in of chunk `i`. -/
def inWait {i : ℕ} (h : i < 64) (k : BodyProg F) : BodyProg F :=
  .op (.waitDma2 (sem10 arg9 (m10 i)) (modBlk arg1 h) (modSlot arg6 (m10 i)) (View.wordExact_bits rfl) ((View.wordExact_bits rfl).reshape _ _)) fun _ =>
  .op (.waitDma2 (sem10 arg11 (m10 i)) (idxBlk arg0 h) (idxSlot arg8 (m10 i)) ((View.wordExact_bits rfl).reshape _ _) ((View.wordExact_bits rfl).reshape _ _)) fun _ => k

/-- Collect the copy out of chunk `i`. -/
def outWait {i : ℕ} (h : i < 64) (k : BodyProg F) : BodyProg F :=
  .op (.waitDma2 (sem4 arg10 (m4 i)) (outSlot arg7 (m4 i)) (outBlk arg5 h) ((View.wordExact_bits rfl).reshape _ _) (View.wordExact_bits rfl)) fun _ => k

/-- Start the copy out of chunk `i`. -/
def outStart {i : ℕ} (h : i < 64) (k : BodyProg F) : BodyProg F :=
  .op (.enqueueDma (outSlot arg7 (m4 i)) (.here (outBlk arg5 h)) (.dma (sem4 arg10 (m4 i))) ((View.wordExact_bits rfl).reshape _ _) (View.wordExact_bits rfl) ⟨Or.inl rfl, trivial⟩) fun _ => k

/-- Load chunk `i`'s operands, compute, store the result in its slot. -/
def compute (i : ℕ) (k : BodyProg F) : BodyProg F :=
  .op (.load arg8 (Rect.unit (s := S10x8x400) ![i % 10, 0, 0] S1x8x400.size (inbIdxSlot (m10 i))).toLoadRect (View.loadsAt_vmem h_S1x8x400)) fun v1 =>
  .op (.load arg2 (Rect.unit (s := S32x128) ![0, 0] S32x128.size inb_S32x128_S32x128_0_0).toLoadRect (View.loadsAt_vmem h_S32x128)) fun v2 =>
  .op (.load arg6 (Rect.unit (s := S10x3200x109) ![i % 10, 0, 0] S1x3200x109.size (inbModSlot (m10 i))).toLoadRect (View.loadsAt_vmem h_S1x3200x109)) fun v3 =>
  .op (.load arg3 (Rect.unit (s := S109x128) ![0, 0] S109x128.size inb_S109x128_S109x128_0_0).toLoadRect (View.loadsAt_vmem h_S109x128)) fun v4 =>
  .op (.load arg4 (Rect.unit (s := S3200x128) ![0, 0] S3200x128.size inb_S3200x128_S3200x128_0_0).toLoadRect (View.loadsAt_vmem h_S3200x128)) fun v5 =>
  .op (.load arg7 (Rect.unit (s := S4x3200x128) ![i % 4, 0, 0] S1x3200x128.size (inbOutSlot (m4 i))).toLoadRect (View.loadsAt_vmem h_S1x3200x128)) fun _ =>
  .op (.store arg7 (Rect.unit (s := S4x3200x128) ![i % 4, 0, 0] S1x3200x128.size (inbOutSlot (m4 i))) (k0_pay6 v1 v2 v3 v4 v5) Finset.univ (View.stores_vmem_bits_univ h_S1x3200x128 rfl) (.inl rfl)) fun _ => k

/-- The copy out four chunks back is collected, if there is one. -/
def outWaitBack (i : ℕ) (k : BodyProg F) : BodyProg F :=
  if h : 4 ≤ i ∧ i - 4 < 64 then outWait arg5 arg7 arg10 h.2 k else k
/-- The copies in ten chunks on are started, if there is such a chunk. -/
def inStartAhead (i : ℕ) (k : BodyProg F) : BodyProg F :=
  if h : i + 10 < 64 then inStart arg0 arg1 arg6 arg8 arg9 arg11 h k else k

/-- Chunk `i`. -/
def chunk {i : ℕ} (h : i < 64) (k : BodyProg F) : BodyProg F :=
  inWait arg0 arg1 arg6 arg8 arg9 arg11 h <| outWaitBack arg5 arg7 arg10 i <| compute arg2 arg3 arg4 arg6 arg7 arg8 i <|
    outStart arg5 arg7 arg10 h <| inStartAhead arg0 arg1 arg6 arg8 arg9 arg11 i k

/-- The chunks from `64 - n` on. -/
def chunksFrom : ℕ → BodyProg F → BodyProg F
  | 0, k => k
  | n + 1, k => if h : 63 - n < 64 then chunk arg0 arg1 arg2 arg3 arg4 arg5 arg6 arg7 arg8 arg9 arg10 arg11 h (chunksFrom n k) else k
/-- The first copies in, from `10 - n` on. -/
def startsFrom : ℕ → BodyProg F → BodyProg F
  | 0, k => k
  | n + 1, k => if h : 9 - n < 64 then inStart arg0 arg1 arg6 arg8 arg9 arg11 h (startsFrom n k) else k
/-- The last copies out, from `64 - n` on. -/
def waitsFrom : ℕ → BodyProg F → BodyProg F
  | 0, k => k
  | n + 1, k => if h : 63 - n < 64 then outWait arg5 arg7 arg10 h (waitsFrom n k) else k

/-- The whole body. -/
def loop : BodyProg F :=
  startsFrom arg0 arg1 arg6 arg8 arg9 arg11 10 <|
    chunksFrom arg0 arg1 arg2 arg3 arg4 arg5 arg6 arg7 arg8 arg9 arg10 arg11 64 <|
      waitsFrom arg5 arg7 arg10 4 <| .ret ⟨⟩

end Pieces

set_option maxRecDepth 65536 in
theorem body_eq (arg0 : Memref sig .tc .hbm S64x8x400 .i32) (harg0 : arg0.IsWhole) (arg1 : Memref sig .tc .hbm S204800x109 .f32) (harg1 : arg1.IsWhole) (arg2 : Memref sig .tc .vmem S32x128 .f32) (harg2 : arg2.IsWhole) (arg3 : Memref sig .tc .vmem S109x128 .f32) (harg3 : arg3.IsWhole) (arg4 : Memref sig .tc .vmem S3200x128 .f32) (harg4 : arg4.IsWhole) (arg5 : Memref sig .tc .hbm S204800x128 .f32) (harg5 : arg5.IsWhole) (arg6 : Memref sig .tc .vmem S10x3200x109 .f32) (harg6 : arg6.IsWhole) (arg7 : Memref sig .tc .vmem S4x3200x128 .f32) (harg7 : arg7.IsWhole) (arg8 : Memref sig .tc .vmem S10x8x400 .i32) (harg8 : arg8.IsWhole) (arg9 : DmaSems sig S10) (arg10 : DmaSems sig S4) (arg11 : DmaSems sig S10) :
    cc0__body (F := F) arg0 harg0 arg1 harg1 arg2 harg2 arg3 harg3 arg4 harg4 arg5 harg5 arg6 harg6 arg7 harg7 arg8 harg8 arg9 arg10 arg11
      = loop arg0 arg1 arg2 arg3 arg4 arg5 arg6 arg7 arg8 arg9 arg10 arg11 := by
  sl_kernel_rfl

end Cert.KernelIdeal.Hand

end
-- ==== Proof.KernelIdeal.Pieces.lean ====
/-
  What each piece of the body does to the memory it is handed: the copies in and out started and collected, and one
  chunk's computation. A block of an array in HBM and a slot of a ring are each held by their own element sets, so
  every piece is stated once, for every chunk and every slot.
-/
module

public import proofs.«01_k».proof.Proof.KernelIdeal.Steps
public import proofs.«01_k».proof.Proof.Gen.KernelIdeal.Launch
public import Idealize.ShloMosaic.Lib.Transfers
public import Idealize.ShloMosaic.Lib.Ring
public import Idealize.ShloMosaic.Lib.VecWindow
public import Idealize.ShloMosaic.Lib.Pipeline.FrameSuffixV
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the proof speaks of. -/
local notation "𝕄" => MT nD τ sig Unit (Elt F) ℕ (Pipeline.UD sig nD τ) ℕ

/-- The counters the transfers are kept in. -/
abbrev EC : UEmb Counters 𝕄 := countersEmb (U := Pipeline.UD sig nD τ)

/-- A buffer's contents, for the view `m` has of it. -/
abbrev Con (F : FTy → Type) [FloatOps F] (c : Dev nD) {sp : Space} {s : Shape} {e : EltTy} (m : Memref sig .tc sp s e) : Type := Buf (Elt F) (m.view.loc (c : Thread nD τ))

/-- The elements under `m`, held whole at `f`. -/
abbrev held (c : Dev nD) {sp : Space} {s : Shape} {e : EltTy} (m : Memref sig .tc sp s e) (f : Con F c m) : sProp 𝕄 :=
  m.view.loc (c : Thread nD τ) ↦[m.view.set]{fullShare} f

/-- A slot's contents seen through the box it is cut out of: a block's contents put back behind one more axis. -/
def boxed {s s' : Shape} {e : EltTy} (hq : s'.numel = s.numel) (g : s'.Idx → Elt F e) : s.Idx → Elt F e :=
  fun y => g ((Shape.reshapeEquiv hq).symm y)

theorem read_slice_of_reshape {sp : Space} {s s' : Shape} {e : EltTy} (v : View sig .tc sp s e) (hq : s'.numel = s.numel)
    (f : v.ty.Contents (Elt F)) (g : s'.Idx → Elt F e) (h : (v.reshape s' hq).read (Elt F) f = g) : v.read (Elt F) f = boxed hq g := by
  funext y
  rw [← h]
  show v.read (Elt F) f y = v.read (Elt F) f (Shape.reshapeEquiv hq ((Shape.reshapeEquiv hq).symm y))
  rw [Equiv.apply_symm_apply]

/-- The weakest precondition of a piece of the body. -/
abbrev wpB (c : Dev nD) (𝒱 : Variants) (Q : PUnit → sProp 𝕄) (p : BodyProg F) : sProp 𝕄 :=
  wp frame (wpE (defs₀ (F := F)) 𝒱 (c : Thread nD τ) none) Set.univ p Q

section Pieces

variable (c : Dev nD)
variable (arg0 : Memref sig .tc .hbm S64x8x400 .i32) (arg1 : Memref sig .tc .hbm S204800x109 .f32)
  (arg2 : Memref sig .tc .vmem S32x128 .f32) (arg3 : Memref sig .tc .vmem S109x128 .f32) (arg4 : Memref sig .tc .vmem S3200x128 .f32)
  (arg5 : Memref sig .tc .hbm S204800x128 .f32) (arg6 : Memref sig .tc .vmem S10x3200x109 .f32)
  (arg7 : Memref sig .tc .vmem S4x3200x128 .f32) (arg8 : Memref sig .tc .vmem S10x8x400 .i32)
  (arg9 : DmaSems sig S10) (arg10 : DmaSems sig S4) (arg11 : DmaSems sig S10)
  (Vi : Con F c arg0) (Vm : Con F c arg1)
  (f2 : Con F c arg2) (f3 : Con F c arg3) (f4 : Con F c arg4)
  (Vo Go : Con F c arg5)

variable (F) in
/-- A slot of each ring holding nothing in particular. -/
def anyMod {s : ℕ} (h : s < 10) : sProp 𝕄 := iprop(∃ f : Con F c (modSlot arg6 h), held c (modSlot arg6 h) f)
variable (F) in
def anyIdx {s : ℕ} (h : s < 10) : sProp 𝕄 := iprop(∃ f : Con F c (idxSlot arg8 h), held c (idxSlot arg8 h) f)
variable (F) in
def anyOut {s : ℕ} (h : s < 4) : sProp 𝕄 := iprop(∃ f : Con F c (outSlot arg7 h), held c (outSlot arg7 h) f)

/-- The features' slot of chunk `i` holding that chunk's block. -/
def hasMod {i : ℕ} (h : i < 64) : sProp 𝕄 :=
  iprop(∃ f : Con F c (modSlot arg6 (m10 i)), ⌜(modSlot arg6 (m10 i)).view.read (Elt F) f = (modBlk arg1 h).view.read (Elt F) Vm⌝ ∗ held c (modSlot arg6 (m10 i)) f)
/-- The indices' slot likewise. -/
def hasIdx {i : ℕ} (h : i < 64) : sProp 𝕄 :=
  iprop(∃ f : Con F c (idxSlot arg8 (m10 i)), ⌜(idxSlot arg8 (m10 i)).view.read (Elt F) f = (idxBlk arg0 h).view.read (Elt F) Vi⌝ ∗ held c (idxSlot arg8 (m10 i)) f)

/-- What chunk `i` computes. -/
def payAt {i : ℕ} (h : i < 64) : FVec F S1x3200x128 .f32 :=
  k0_pay6 (boxed squeezes_S1x8x400_S8x400.numel_eq ((idxBlk arg0 h).view.read (Elt F) Vi)) (arg2.view.read (Elt F) f2)
    (boxed squeezes_S1x3200x109_S3200x109.numel_eq ((modBlk arg1 h).view.read (Elt F) Vm)) (arg3.view.read (Elt F) f3) (arg4.view.read (Elt F) f4)

/-- The same without the leading axis: chunk `i`'s rows of the result. -/
def rowsAt {i : ℕ} (h : i < 64) : S3200x128.Idx → Elt F .f32 :=
  fun x => payAt c arg0 arg1 arg2 arg3 arg4 Vi Vm f2 f3 f4 h (Shape.reshapeEquiv squeezes_S1x3200x128_S3200x128.numel_eq x)

/-- The results' slot of chunk `i` holding them. -/
def hasOut {i : ℕ} (h : i < 64) : sProp 𝕄 :=
  iprop(∃ f : Con F c (outSlot arg7 (m4 i)), ⌜(outSlot arg7 (m4 i)).view.read (Elt F) f = rowsAt c arg0 arg1 arg2 arg3 arg4 Vi Vm f2 f3 f4 h⌝ ∗ held c (outSlot arg7 (m4 i)) f)

/-- The copies in flight for chunk `i`: of its features, -/
def flyMod {i : ℕ} (h : i < 64) : sProp 𝕄 :=
  Transfers.Flight EC (c : Thread nD τ) (.dma (sem10 arg9 (m10 i))) () (modSlot arg6 (m10 i)).view.dmaCredit
    iprop(hasMod c arg1 arg6 Vm h ∗ held c (modBlk arg1 h) Vm)
/-- of its indices, -/
def flyIdx {i : ℕ} (h : i < 64) : sProp 𝕄 :=
  Transfers.Flight EC (c : Thread nD τ) (.dma (sem10 arg11 (m10 i))) () (idxSlot arg8 (m10 i)).view.dmaCredit
    iprop(hasIdx c arg0 arg8 Vi h ∗ held c (idxBlk arg0 h) Vi)
/-- and of its rows of the result. -/
def flyOut {i : ℕ} (h : i < 64) : sProp 𝕄 :=
  Transfers.Flight EC (c : Thread nD τ) (.dma (sem4 arg10 (m4 i))) () (outBlk arg5 h).view.dmaCredit
    iprop(held c (outBlk arg5 h) Go ∗ anyOut F c arg7 (m4 i))

variable (F) in
/-- A semaphore of the body's own at zero. -/
abbrev zero10 (m : DmaSems sig S10) {s : ℕ} (h : s < 10) : sProp 𝕄 := semVal ((c : Thread nD τ), .dma (sem10 m h)) 0
variable (F) in
abbrev zero4 (m : DmaSems sig S4) {s : ℕ} (h : s < 4) : sProp 𝕄 := semVal ((c : Thread nD τ), .dma (sem4 m h)) 0

theorem wp_inStart (𝒱 : Variants) (Q : PUnit → sProp 𝕄) {i : ℕ} (h : i < 64) (k : BodyProg F) :
    iprop(held c (modBlk arg1 h) Vm ∗ held c (idxBlk arg0 h) Vi ∗ anyMod F c arg6 (m10 i) ∗ anyIdx F c arg8 (m10 i) ∗ zero10 F c arg9 (m10 i) ∗ zero10 F c arg11 (m10 i))
      ⊢ iprop((iprop(flyMod c arg1 arg6 arg9 Vm h ∗ flyIdx c arg0 arg8 arg11 Vi h) -∗ wpB (F := F) c 𝒱 Q k)
          -∗ wpB (F := F) c 𝒱 Q (inStart arg0 arg1 arg6 arg8 arg9 arg11 h k)) := by
  unfold inStart anyMod anyIdx
  iintro ⟨Hm, Hi, ⟨%fm, Hsm⟩, ⟨%fi, Hsi⟩, Z9, Z11⟩ Hk
  iapply (Transfers.wp_dmaLocal EC 𝒱 (c : Thread nD τ) none (src := modBlk arg1 h) (dst := modSlot arg6 (m10 i)) (via := .same) (fs := Vm) (fd := fm) () (modSlot arg6 (m10 i)).view.dmaCredit rfl
    (View.dmaCredit_pos _ (by decide)) subset_rfl) $$ [Hm Hsm Z9]
  · isplitl [Hm]; · iexact Hm
    isplitl [Hsm]; · iexact Hsm
    iexact Z9
  iintro F9
  iapply (Transfers.wp_dmaLocal EC 𝒱 (c : Thread nD τ) none (src := idxBlk arg0 h) (dst := idxSlot arg8 (m10 i)) (via := .same) (fs := Vi) (fd := fi) () (idxSlot arg8 (m10 i)).view.dmaCredit rfl
    (View.dmaCredit_pos _ (by decide)) subset_rfl) $$ [Hi Hsi Z11]
  · isplitl [Hi]; · iexact Hi
    isplitl [Hsi]; · iexact Hsi
    iexact Z11
  iintro F11
  iapply Hk
  isplitl [F9]
  · unfold flyMod
    iapply (Transfers.Flight_mono EC (c : Thread nD τ) ?_) $$ F9
    unfold hasMod
    iintro ⟨H, Hb⟩
    isplitl [H]
    · iexists ((modSlot arg6 (m10 i)).view.write (Elt F) fm ((modBlk arg1 h).view.read (Elt F) Vm) Finset.univ)
      isplitr
      · ipureintro; exact View.read_write_univ _ _
      iexact H
    iexact Hb
  · unfold flyIdx
    iapply (Transfers.Flight_mono EC (c : Thread nD τ) ?_) $$ F11
    unfold hasIdx
    iintro ⟨H, Hb⟩
    isplitl [H]
    · iexists ((idxSlot arg8 (m10 i)).view.write (Elt F) fi ((idxBlk arg0 h).view.read (Elt F) Vi) Finset.univ)
      isplitr
      · ipureintro; exact View.read_write_univ _ _
      iexact H
    iexact Hb

theorem wp_inWait (𝒱 : Variants) (Q : PUnit → sProp 𝕄) {i : ℕ} (h : i < 64) (k : BodyProg F) (W : Waits sig Unit) :
    iprop(flyMod c arg1 arg6 arg9 Vm h ∗ flyIdx c arg0 arg8 arg11 Vi h ∗ owes (c : Thread nD τ) 0 W)
      ⊢ iprop((iprop(hasMod c arg1 arg6 Vm h ∗ hasIdx c arg0 arg8 Vi h ∗ held c (modBlk arg1 h) Vm ∗ held c (idxBlk arg0 h) Vi
              ∗ zero10 F c arg9 (m10 i) ∗ zero10 F c arg11 (m10 i) ∗ (∃ W' : Waits sig Unit, owes (c : Thread nD τ) 0 W')) -∗ wpB (F := F) c 𝒱 Q k)
          -∗ wpB (F := F) c 𝒱 Q (inWait arg0 arg1 arg6 arg8 arg9 arg11 h k)) := by
  unfold inWait flyMod flyIdx
  iintro ⟨F9, F11, HO⟩ Hk
  iapply (Transfers.wp_waitLocal EC 𝒱 (c : Thread nD τ) none (srcw := modBlk arg1 h) (dstw := modSlot arg6 (m10 i)) () (N := (modSlot arg6 (m10 i)).view.dmaCredit) rfl) $$ [F9 HO]
  · isplitl [F9]; · iexact F9
    iexact HO
  iintro ⟨⟨Hm, Bm⟩, Z9, HO⟩
  iapply (Transfers.wp_waitLocal EC 𝒱 (c : Thread nD τ) none (srcw := idxBlk arg0 h) (dstw := idxSlot arg8 (m10 i)) () (N := (idxSlot arg8 (m10 i)).view.dmaCredit) rfl) $$ [F11 HO]
  · isplitl [F11]; · iexact F11
    iexact HO
  iintro ⟨⟨Hi, Bi⟩, Z11, HO⟩
  iapply Hk
  isplitl [Hm]; · iexact Hm
  isplitl [Hi]; · iexact Hi
  isplitl [Bm]; · iexact Bm
  isplitl [Bi]; · iexact Bi
  isplitl [Z9]; · iexact Z9
  isplitl [Z11]; · iexact Z11
  iexists _; iexact HO

theorem wp_outWait (𝒱 : Variants) (Q : PUnit → sProp 𝕄) {i : ℕ} (h : i < 64) (k : BodyProg F) (W : Waits sig Unit) :
    iprop(flyOut c arg5 arg7 arg10 Go h ∗ owes (c : Thread nD τ) 0 W)
      ⊢ iprop((iprop(held c (outBlk arg5 h) Go ∗ anyOut F c arg7 (m4 i) ∗ zero4 F c arg10 (m4 i) ∗ (∃ W' : Waits sig Unit, owes (c : Thread nD τ) 0 W')) -∗ wpB (F := F) c 𝒱 Q k)
          -∗ wpB (F := F) c 𝒱 Q (outWait arg5 arg7 arg10 h k)) := by
  unfold outWait flyOut
  iintro ⟨F, HO⟩ Hk
  iapply (Transfers.wp_waitLocal EC 𝒱 (c : Thread nD τ) none (srcw := outSlot arg7 (m4 i)) (dstw := outBlk arg5 h) () (N := (outBlk arg5 h).view.dmaCredit) rfl) $$ [F HO]
  · isplitl [F]; · iexact F
    iexact HO
  iintro ⟨⟨Hb, Hs⟩, Z, HO⟩
  iapply Hk
  isplitl [Hb]; · iexact Hb
  isplitl [Hs]; · iexact Hs
  isplitl [Z]; · iexact Z
  iexists _; iexact HO

/-- Contents that read the same through a view agree on its elements. -/
theorem held_congr {sp : Space} {s : Shape} {e : EltTy} (m : Memref sig .tc sp s e) (f g : Con F c m)
    (h : m.view.read (Elt F) f = m.view.read (Elt F) g) : held c m f ⊢ held c m g := by
  refine (BI.equiv_iff.mpr (pointsTo_congr fun i hi => ?_)).1
  obtain ⟨x, -, rfl⟩ := Finset.mem_map.mp hi
  exact (cast_bijective _).injective (congrFun h x)

theorem wp_outStart (𝒱 : Variants) (Q : PUnit → sProp 𝕄) {i : ℕ} (h : i < 64) (k : BodyProg F)
    (hG : (outBlk arg5 h).view.read (Elt F) Go = rowsAt c arg0 arg1 arg2 arg3 arg4 Vi Vm f2 f3 f4 h) :
    iprop(hasOut c arg0 arg1 arg2 arg3 arg4 arg7 Vi Vm f2 f3 f4 h ∗ held c (outBlk arg5 h) Vo ∗ zero4 F c arg10 (m4 i))
      ⊢ iprop((flyOut c arg5 arg7 arg10 Go h -∗ wpB (F := F) c 𝒱 Q k)
          -∗ wpB (F := F) c 𝒱 Q (outStart arg5 arg7 arg10 h k)) := by
  unfold outStart hasOut
  iintro ⟨⟨%f, %hf, Hs⟩, Hb, Z⟩ Hk
  iapply (Transfers.wp_dmaLocal EC 𝒱 (c : Thread nD τ) none (src := outSlot arg7 (m4 i)) (dst := outBlk arg5 h) (via := .same) (fs := f) (fd := Vo) () (outBlk arg5 h).view.dmaCredit rfl
    (View.dmaCredit_pos _ (by decide)) subset_rfl) $$ [Hs Hb Z]
  · isplitl [Hs]; · iexact Hs
    isplitl [Hb]; · iexact Hb
    iexact Z
  iintro F
  iapply Hk
  unfold flyOut
  iapply (Transfers.Flight_mono EC (c : Thread nD τ) ?_) $$ F
  unfold anyOut
  iintro ⟨Hb, Hs⟩
  isplitl [Hb]
  · iapply (held_congr c (outBlk arg5 h) _ Go ((View.read_write_univ _ _).trans (hf.trans hG.symm))) $$ Hb
  iexists _; iexact Hs

/-- The slot a box cuts out of a ring has the box's elements. -/
theorem slot_set {sp : Space} {s s₀ s' : Shape} {e : EltTy} (m : Memref sig .tc sp s e) (r : Rect s) (hq : s'.numel = r.shape.numel) :
    ((m.view.slice r).reshape s' hq).set = (m.access r).set := View.set_reshape ..

/-- One chunk's computation: the operands stay, the results' slot holds the chunk's rows. -/
theorem wp_compute (𝒱 : Variants) (Q : PUnit → sProp 𝕄) {i : ℕ} (h : i < 64) (k : BodyProg F) :
    iprop(hasMod c arg1 arg6 Vm h ∗ hasIdx c arg0 arg8 Vi h ∗ anyOut F c arg7 (m4 i) ∗ held c arg2 f2 ∗ held c arg3 f3 ∗ held c arg4 f4)
      ⊢ iprop((iprop(anyMod F c arg6 (m10 i) ∗ anyIdx F c arg8 (m10 i) ∗ hasOut c arg0 arg1 arg2 arg3 arg4 arg7 Vi Vm f2 f3 f4 h
              ∗ held c arg2 f2 ∗ held c arg3 f3 ∗ held c arg4 f4) -∗ wpB (F := F) c 𝒱 Q k)
          -∗ wpB (F := F) c 𝒱 Q (compute arg2 arg3 arg4 arg6 arg7 arg8 i k)) := by
  unfold compute hasMod hasIdx anyOut
  iintro ⟨⟨%fm, %hm, Hm⟩, ⟨%fi, %hi, Hi⟩, ⟨%fo, Ho⟩, H2, H3, H4⟩ Hk
  iapply (wp_load 𝒱 (c : Thread nD τ) none Set.univ (m := arg8) (S := (idxSlot arg8 (m10 i)).view.set) (f := fi) (q := fullShare) ?_) $$ Hi
  · show (arg8.view.setOn _) ⊆ _; rw [slot_set (s₀ := S_), View.set_slice]; exact subset_rfl
  iintro Hi
  iapply (wp_load 𝒱 (c : Thread nD τ) none Set.univ (m := arg2) (S := arg2.view.set) (f := f2) (q := fullShare) (View.setOn_subset_set _ _)) $$ H2
  iintro H2
  iapply (wp_load 𝒱 (c : Thread nD τ) none Set.univ (m := arg6) (S := (modSlot arg6 (m10 i)).view.set) (f := fm) (q := fullShare) ?_) $$ Hm
  · show (arg6.view.setOn _) ⊆ _; rw [slot_set (s₀ := S_), View.set_slice]; exact subset_rfl
  iintro Hm
  iapply (wp_load 𝒱 (c : Thread nD τ) none Set.univ (m := arg3) (S := arg3.view.set) (f := f3) (q := fullShare) (View.setOn_subset_set _ _)) $$ H3
  iintro H3
  iapply (wp_load 𝒱 (c : Thread nD τ) none Set.univ (m := arg4) (S := arg4.view.set) (f := f4) (q := fullShare) (View.setOn_subset_set _ _)) $$ H4
  iintro H4
  iapply (wp_load 𝒱 (c : Thread nD τ) none Set.univ (m := arg7) (S := (outSlot arg7 (m4 i)).view.set) (f := fo) (q := fullShare) ?_) $$ Ho
  · show (arg7.view.setOn _) ⊆ _; rw [slot_set (s₀ := S_), View.set_slice]; exact subset_rfl
  iintro Ho
  iapply (wp_store 𝒱 (c : Thread nD τ) none Set.univ (m := arg7) (r := Rect.unit (s := S4x3200x128) ![i % 4, 0, 0] S1x3200x128.size (inbOutSlot (m4 i))) (S := (outSlot arg7 (m4 i)).view.set) (f := fo) ?_) $$ Ho
  · rw [View.setOn_univ, slot_set (s₀ := S_)]
  iintro Ho
  iapply Hk
  isplitl [Hm]
  · unfold anyMod; iexists fm; iexact Hm
  isplitl [Hi]
  · unfold anyIdx; iexists fi; iexact Hi
  isplitl [Ho]
  · unfold hasOut
    iexists _
    isplitr
    rotate_left
    · iexact Ho
    · ipureintro
      funext x
      show (arg7.access _).read (Elt F) ((arg7.access _).write (Elt F) fo _ Finset.univ) (Shape.reshapeEquiv _ x) = _
      rw [View.read_write_univ]
      unfold rowsAt payAt
      congr 1
      congr 1
      · exact read_slice_of_reshape _ _ _ _ hi
      · exact View.readAt_full _ _ _
      · exact read_slice_of_reshape _ _ _ _ hm
      · exact View.readAt_full _ _ _
      · exact View.readAt_full _ _ _
  isplitl [H2]; · iexact H2
  isplitl [H3]; · iexact H3
  iexact H4

end Pieces

end Cert.KernelIdeal.Hand

end
-- ==== Proof.KernelIdeal.Loop.lean ====
/-
  The whole body, by its three loops. Each ring of copies is ONE conjunction over a range of numbers whose members'
  state depends only on where the number stands to the chunk reached: a block not yet reached, a copy in flight (or
  the free slot it would take), a block come back. Reaching the next chunk changes two members of each.
-/
module

public import proofs.«01_k».proof.Proof.KernelIdeal.Pieces

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the proof speaks of. -/
local notation "𝕄" => MT nD τ sig Unit (Elt F) ℕ (Pipeline.UD sig nD τ) ℕ

/-- Two members of a conjunction change, the others stay. -/
theorem bigSep_step₂ {I M : Type} [DecidableEq I] [URA M] {S : Finset I} {A B : I → sProp M} (a b : I) (ha : a ∈ S) (hb : b ∈ S)
    (hab : a ≠ b) (h : ∀ j, j ≠ a → j ≠ b → A j = B j) : bigSep S A ⊢ iprop(A a ∗ A b ∗ ((B a ∗ B b) -∗ bigSep S B)) := by
  have hb' : b ∈ S.erase a := Finset.mem_erase.mpr ⟨hab.symm, hb⟩
  rw [bigSep_erase ha, bigSep_erase hb', bigSep_erase ha (Φ := B), bigSep_erase hb' (Φ := B),
    bigSep_congr (Φ := A) (Ψ := B) fun j hj => h j (Finset.ne_of_mem_erase (Finset.mem_of_mem_erase hj)) (Finset.ne_of_mem_erase hj)]
  show iprop(A a ∗ A b ∗ bigSep ((S.erase a).erase b) B) ⊢ iprop(A a ∗ A b ∗ ((B a ∗ B b) -∗ (B a ∗ B b ∗ bigSep ((S.erase a).erase b) B)))
  iintro ⟨Ha, Hb, Hr⟩
  isplitl [Ha]; · iexact Ha
  isplitl [Hb]; · iexact Hb
  iintro ⟨Ha, Hb⟩
  isplitl [Ha]; · iexact Ha
  isplitl [Hb]; · iexact Hb
  iexact Hr

/-- One member changes. -/
theorem bigSep_step₁ {I M : Type} [DecidableEq I] [URA M] {S : Finset I} {A B : I → sProp M} (a : I) (ha : a ∈ S)
    (h : ∀ j, j ≠ a → A j = B j) : bigSep S A ⊢ iprop(A a ∗ (B a -∗ bigSep S B)) := by
  rw [bigSep_erase ha, bigSep_erase ha (Φ := B), bigSep_congr (Φ := A) (Ψ := B) fun j hj => h j (Finset.ne_of_mem_erase hj)]
  show iprop(A a ∗ bigSep (S.erase a) B) ⊢ iprop(A a ∗ (B a -∗ (B a ∗ bigSep (S.erase a) B)))
  iintro ⟨Ha, Hr⟩
  isplitl [Ha]; · iexact Ha
  iintro Ha
  isplitl [Ha]; · iexact Ha
  iexact Hr

section Loop

variable (c : Dev nD)
variable (arg0 : Memref sig .tc .hbm S64x8x400 .i32) (arg1 : Memref sig .tc .hbm S204800x109 .f32)
  (arg2 : Memref sig .tc .vmem S32x128 .f32) (arg3 : Memref sig .tc .vmem S109x128 .f32) (arg4 : Memref sig .tc .vmem S3200x128 .f32)
  (arg5 : Memref sig .tc .hbm S204800x128 .f32) (arg6 : Memref sig .tc .vmem S10x3200x109 .f32)
  (arg7 : Memref sig .tc .vmem S4x3200x128 .f32) (arg8 : Memref sig .tc .vmem S10x8x400 .i32)
  (arg9 : DmaSems sig S10) (arg10 : DmaSems sig S4) (arg11 : DmaSems sig S10)
  (Vi : Con F c arg0) (Vm : Con F c arg1)
  (f2 : Con F c arg2) (f3 : Con F c arg3) (f4 : Con F c arg4)
  (Vo Go : Con F c arg5)

variable (F) in
/-- A free slot of each of the two rings in, with its semaphores at zero. -/
def idleIn {s : ℕ} (h : s < 10) : sProp 𝕄 :=
  iprop(anyMod F c arg6 h ∗ anyIdx F c arg8 h ∗ zero10 F c arg9 h ∗ zero10 F c arg11 h)
variable (F) in
/-- A free slot of the ring out. -/
def idleOut {s : ℕ} (h : s < 4) : sProp 𝕄 := iprop(anyOut F c arg7 h ∗ zero4 F c arg10 h)

theorem idleIn_congr {s s' : ℕ} (e : s = s') (h : s < 10) (h' : s' < 10) :
    idleIn F c arg6 arg8 arg9 arg11 h = idleIn F c arg6 arg8 arg9 arg11 h' := by subst e; rfl
theorem idleOut_congr {s s' : ℕ} (e : s = s') (h : s < 4) (h' : s' < 4) :
    idleOut F c arg7 arg10 h = idleOut F c arg7 arg10 h' := by subst e; rfl

/-- Block `j` of the two arrays read, if there is one. -/
def home (j : ℕ) : sProp 𝕄 := if h : j < 64 then iprop(held c (modBlk arg1 h) Vm ∗ held c (idxBlk arg0 h) Vi) else iprop(emp)
/-- Block `j` in flight, if there is one; else the slot it would take, free. -/
def busyIn (j : ℕ) : sProp 𝕄 :=
  if h : j < 64 then iprop(flyMod c arg1 arg6 arg9 Vm h ∗ flyIdx c arg0 arg8 arg11 Vi h) else idleIn F c arg6 arg8 arg9 arg11 (m10 j)
/-- Number `j` of the rings in before the copies in of block `p` are started, -/
def preSt (p j : ℕ) : sProp 𝕄 :=
  if j < p then busyIn c arg0 arg1 arg6 arg8 arg9 arg11 Vi Vm j
  else if j < 10 then iprop(idleIn F c arg6 arg8 arg9 arg11 (m10 j) ∗ home c arg0 arg1 Vi Vm j) else home c arg0 arg1 Vi Vm j
/-- and before chunk `i`. -/
def inSt (i j : ℕ) : sProp 𝕄 :=
  if j < i then home c arg0 arg1 Vi Vm j
  else if j < i + 10 then busyIn c arg0 arg1 arg6 arg8 arg9 arg11 Vi Vm j else home c arg0 arg1 Vi Vm j

/-- Block `k - 4` of the result, if there is one, at contents `V`. -/
def rowsOut (V : Con F c arg5) (k : ℕ) : sProp 𝕄 := if h : 4 ≤ k ∧ k - 4 < 64 then held c (outBlk arg5 h.2) V else iprop(emp)
/-- Block `k - 4` on its way out, if there is one; else the slot it would take, free. -/
def busyOut (k : ℕ) : sProp 𝕄 := if h : 4 ≤ k ∧ k - 4 < 64 then flyOut c arg5 arg7 arg10 Go h.2 else idleOut F c arg7 arg10 (m4 k)
/-- Number `k` of the ring out before chunk `i`, -/
def outSt (i k : ℕ) : sProp 𝕄 :=
  if k < i then rowsOut c arg5 Go k else if k < i + 4 then busyOut c arg5 arg7 arg10 Go k else rowsOut c arg5 Vo k
/-- and, the chunks done, before copy out `i - 4` is collected. -/
def endSt (i k : ℕ) : sProp 𝕄 :=
  if k < 64 then rowsOut c arg5 Go k
  else if k < i then iprop(rowsOut c arg5 Go k ∗ idleOut F c arg7 arg10 (m4 k)) else busyOut c arg5 arg7 arg10 Go k

/-- The rings and what the core has waited for, before chunk `i`. -/
def atChunk (i : ℕ) : sProp 𝕄 :=
  iprop(bigSep (Finset.range 74) (inSt c arg0 arg1 arg6 arg8 arg9 arg11 Vi Vm i) ∗ bigSep (Finset.range 68) (outSt c arg5 arg7 arg10 Vo Go i)
    ∗ (held c arg2 f2 ∗ held c arg3 f3 ∗ held c arg4 f4) ∗ (∃ W : Waits sig Unit, owes (c : Thread nD τ) 0 W))

/-- A copy in of the first ten. -/
theorem wp_startStep (𝒱 : Variants) (Q : PUnit → sProp 𝕄) {p : ℕ} (hp : p < 10) (h : p < 64) (k : BodyProg F) :
    bigSep (Finset.range 74) (preSt c arg0 arg1 arg6 arg8 arg9 arg11 Vi Vm p)
      ⊢ iprop((bigSep (Finset.range 74) (preSt c arg0 arg1 arg6 arg8 arg9 arg11 Vi Vm (p + 1)) -∗ wpB (F := F) c 𝒱 Q k)
          -∗ wpB (F := F) c 𝒱 Q (inStart arg0 arg1 arg6 arg8 arg9 arg11 h k)) := by
  have key := (bigSep_step₁ (S := Finset.range 74) (A := preSt c arg0 arg1 arg6 arg8 arg9 arg11 Vi Vm p) (B := preSt c arg0 arg1 arg6 arg8 arg9 arg11 Vi Vm (p + 1)) p (Finset.mem_range.mpr (by omega)) fun j hj => by
    unfold preSt
    by_cases h1 : j < p
    · rw [if_pos h1, if_pos (by omega)]
    · rw [if_neg h1, if_neg (by omega : ¬ j < p + 1)])
  have eA : preSt c arg0 arg1 arg6 arg8 arg9 arg11 Vi Vm p p
      = iprop(idleIn F c arg6 arg8 arg9 arg11 (m10 p) ∗ (held c (modBlk arg1 h) Vm ∗ held c (idxBlk arg0 h) Vi)) := by
    unfold preSt home; rw [if_neg (lt_irrefl p), if_pos hp, dif_pos h]
  have eB : preSt c arg0 arg1 arg6 arg8 arg9 arg11 Vi Vm (p + 1) p = iprop(flyMod c arg1 arg6 arg9 Vm h ∗ flyIdx c arg0 arg8 arg11 Vi h) := by
    unfold preSt busyIn; rw [if_pos (Nat.lt_succ_self p), dif_pos h]
  rw [eA, eB] at key
  unfold idleIn at key
  iintro HR Hk
  ihave HR := key $$ HR
  icases HR with ⟨⟨⟨A6, A8, Z9, Z11⟩, Hm, Hi⟩, HR⟩
  iapply (wp_inStart c arg0 arg1 arg6 arg8 arg9 arg11 Vi Vm 𝒱 Q h k) $$ [A6 A8 Z9 Z11 Hm Hi]
  · isplitl [Hm]; · iexact Hm
    isplitl [Hi]; · iexact Hi
    isplitl [A6]; · iexact A6
    isplitl [A8]; · iexact A8
    isplitl [Z9]; · iexact Z9
    iexact Z11
  iintro HF
  iapply Hk
  iapply HR $$ HF

/-- The copy out four chunks back collected, or the slot that was free all along. -/
theorem wp_outWaitBack (𝒱 : Variants) (Q : PUnit → sProp 𝕄) {i : ℕ} (h : i < 64) (k : BodyProg F) (W : Waits sig Unit) :
    iprop(busyOut c arg5 arg7 arg10 Go i ∗ owes (c : Thread nD τ) 0 W)
      ⊢ iprop((iprop(rowsOut c arg5 Go i ∗ idleOut F c arg7 arg10 (m4 i) ∗ (∃ W' : Waits sig Unit, owes (c : Thread nD τ) 0 W')) -∗ wpB (F := F) c 𝒱 Q k)
          -∗ wpB (F := F) c 𝒱 Q (outWaitBack arg5 arg7 arg10 i k)) := by
  unfold busyOut rowsOut outWaitBack
  by_cases h4 : 4 ≤ i ∧ i - 4 < 64
  · rw [dif_pos h4, dif_pos h4, dif_pos h4, idleOut_congr c arg7 arg10 (by omega : i % 4 = (i - 4) % 4) (m4 i) (m4 (i - 4))]
    iintro H Hk
    iapply (wp_outWait c arg5 arg7 arg10 Go 𝒱 Q h4.2 k W) $$ H
    iintro ⟨Hb, Hs, Hz, HO⟩
    iapply Hk
    unfold idleOut
    isplitl [Hb]; · iexact Hb
    isplitl [Hs Hz]
    · isplitl [Hs]; · iexact Hs
      iexact Hz
    iexact HO
  · rw [dif_neg h4, dif_neg h4, dif_neg h4]
    iintro ⟨H, HO⟩ Hk
    iapply Hk
    isplitr; · iempintro
    isplitl [H]; · iexact H
    iexists W; iexact HO

/-- The copies in ten chunks on started, or the slot left free. -/
theorem wp_inStartAhead (𝒱 : Variants) (Q : PUnit → sProp 𝕄) {i : ℕ} (h : i < 64) (k : BodyProg F) :
    iprop(home c arg0 arg1 Vi Vm (i + 10) ∗ idleIn F c arg6 arg8 arg9 arg11 (m10 i))
      ⊢ iprop((busyIn c arg0 arg1 arg6 arg8 arg9 arg11 Vi Vm (i + 10) -∗ wpB (F := F) c 𝒱 Q k)
          -∗ wpB (F := F) c 𝒱 Q (inStartAhead arg0 arg1 arg6 arg8 arg9 arg11 i k)) := by
  unfold busyIn home inStartAhead
  rw [idleIn_congr c arg6 arg8 arg9 arg11 (by omega : i % 10 = (i + 10) % 10) (m10 i) (m10 (i + 10))]
  by_cases h4 : i + 10 < 64
  · rw [dif_pos h4, dif_pos h4, dif_pos h4]
    unfold idleIn
    iintro ⟨⟨Hm, Hi⟩, A6, A8, Z9, Z11⟩ Hk
    iapply (wp_inStart c arg0 arg1 arg6 arg8 arg9 arg11 Vi Vm 𝒱 Q h4 k) $$ [A6 A8 Z9 Z11 Hm Hi]
    · isplitl [Hm]; · iexact Hm
      isplitl [Hi]; · iexact Hi
      isplitl [A6]; · iexact A6
      isplitl [A8]; · iexact A8
      isplitl [Z9]; · iexact Z9
      iexact Z11
    iexact Hk
  · rw [dif_neg h4, dif_neg h4, dif_neg h4]
    iintro ⟨-, H⟩ Hk
    iapply Hk
    iexact H

/-- One chunk. -/
theorem wp_chunk (𝒱 : Variants) (Q : PUnit → sProp 𝕄) {i : ℕ} (h : i < 64) (k : BodyProg F)
    (hG : (outBlk arg5 h).view.read (Elt F) Go = rowsAt c arg0 arg1 arg2 arg3 arg4 Vi Vm f2 f3 f4 h) :
    atChunk c arg0 arg1 arg2 arg3 arg4 arg5 arg6 arg7 arg8 arg9 arg10 arg11 Vi Vm f2 f3 f4 Vo Go i
      ⊢ iprop((atChunk c arg0 arg1 arg2 arg3 arg4 arg5 arg6 arg7 arg8 arg9 arg10 arg11 Vi Vm f2 f3 f4 Vo Go (i + 1) -∗ wpB (F := F) c 𝒱 Q k)
          -∗ wpB (F := F) c 𝒱 Q (chunk arg0 arg1 arg2 arg3 arg4 arg5 arg6 arg7 arg8 arg9 arg10 arg11 h k)) := by
  unfold atChunk chunk
  have keyI := (bigSep_step₂ (S := Finset.range 74) (A := inSt c arg0 arg1 arg6 arg8 arg9 arg11 Vi Vm i) (B := inSt c arg0 arg1 arg6 arg8 arg9 arg11 Vi Vm (i + 1)) i (i + 10) (Finset.mem_range.mpr (by omega)) (Finset.mem_range.mpr (by omega))
    (by omega) fun j h1 h2 => by
      unfold inSt
      by_cases h3 : j < i
      · rw [if_pos h3, if_pos (by omega)]
      · rw [if_neg h3, if_neg (by omega : ¬ j < i + 1)]
        by_cases h4 : j < i + 10
        · rw [if_pos h4, if_pos (by omega)]
        · rw [if_neg h4, if_neg (by omega)])
  have keyO := (bigSep_step₂ (S := Finset.range 68) (A := outSt c arg5 arg7 arg10 Vo Go i) (B := outSt c arg5 arg7 arg10 Vo Go (i + 1)) i (i + 4) (Finset.mem_range.mpr (by omega)) (Finset.mem_range.mpr (by omega))
    (by omega) fun j h1 h2 => by
      unfold outSt
      by_cases h3 : j < i
      · rw [if_pos h3, if_pos (by omega)]
      · rw [if_neg h3, if_neg (by omega : ¬ j < i + 1)]
        by_cases h4 : j < i + 4
        · rw [if_pos h4, if_pos (by omega)]
        · rw [if_neg h4, if_neg (by omega)])
  have e1 : inSt c arg0 arg1 arg6 arg8 arg9 arg11 Vi Vm i i = iprop(flyMod c arg1 arg6 arg9 Vm h ∗ flyIdx c arg0 arg8 arg11 Vi h) := by
    unfold inSt busyIn; rw [if_neg (lt_irrefl i), if_pos (by omega), dif_pos h]
  have e2 : inSt c arg0 arg1 arg6 arg8 arg9 arg11 Vi Vm i (i + 10) = home c arg0 arg1 Vi Vm (i + 10) := by
    unfold inSt; rw [if_neg (by omega), if_neg (by omega)]
  have e3 : inSt c arg0 arg1 arg6 arg8 arg9 arg11 Vi Vm (i + 1) i = iprop(held c (modBlk arg1 h) Vm ∗ held c (idxBlk arg0 h) Vi) := by
    unfold inSt home; rw [if_pos (by omega), dif_pos h]
  have e4 : inSt c arg0 arg1 arg6 arg8 arg9 arg11 Vi Vm (i + 1) (i + 10) = busyIn c arg0 arg1 arg6 arg8 arg9 arg11 Vi Vm (i + 10) := by
    unfold inSt; rw [if_neg (by omega), if_pos (by omega)]
  have o1 : outSt c arg5 arg7 arg10 Vo Go i i = busyOut c arg5 arg7 arg10 Go i := by
    unfold outSt; rw [if_neg (by omega), if_pos (by omega)]
  have o2 : outSt c arg5 arg7 arg10 Vo Go i (i + 4) = held c (outBlk arg5 h) Vo := by
    unfold outSt rowsOut; rw [if_neg (by omega), if_neg (by omega), dif_pos (by omega)]; try rfl
  have o3 : outSt c arg5 arg7 arg10 Vo Go (i + 1) i = rowsOut c arg5 Go i := by
    unfold outSt; rw [if_pos (by omega)]
  have o4 : outSt c arg5 arg7 arg10 Vo Go (i + 1) (i + 4) = flyOut c arg5 arg7 arg10 Go h := by
    unfold outSt busyOut; rw [if_neg (by omega), if_pos (by omega), dif_pos (by omega)]; try rfl
  rw [e1, e2, e3, e4] at keyI
  rw [o1, o2, o3, o4] at keyO
  iintro ⟨HI, HOut, ⟨H2, H3, H4⟩, %W, HW⟩ Hk
  ihave HI := keyI $$ HI
  ihave HOut := keyO $$ HOut
  icases HI with ⟨⟨F9, F11⟩, Hh, HI⟩
  icases HOut with ⟨HB, Ho, HOut⟩
  iapply (wp_inWait c arg0 arg1 arg6 arg8 arg9 arg11 Vi Vm 𝒱 Q h _ W) $$ [F9 F11 HW]
  · isplitl [F9]; · iexact F9
    isplitl [F11]; · iexact F11
    iexact HW
  iintro ⟨Hm, Hi, Bm, Bi, Z9, Z11, %W1, HW⟩
  iapply (wp_outWaitBack c arg5 arg7 arg10 Go 𝒱 Q h _ W1) $$ [HB HW]
  · isplitl [HB]; · iexact HB
    iexact HW
  unfold idleOut
  iintro ⟨HR, ⟨Hs, Z10⟩, HW⟩
  iapply (wp_compute c arg0 arg1 arg2 arg3 arg4 arg6 arg7 arg8 Vi Vm f2 f3 f4 𝒱 Q h _) $$ [Hm Hi Hs H2 H3 H4]
  · isplitl [Hm]; · iexact Hm
    isplitl [Hi]; · iexact Hi
    isplitl [Hs]; · iexact Hs
    isplitl [H2]; · iexact H2
    isplitl [H3]; · iexact H3
    iexact H4
  iintro ⟨Hm, Hi, Hs, H2, H3, H4⟩
  iapply (wp_outStart c arg0 arg1 arg2 arg3 arg4 arg5 arg7 arg10 Vi Vm f2 f3 f4 Vo Go 𝒱 Q h _ hG) $$ [Hs Ho Z10]
  · isplitl [Hs]; · iexact Hs
    isplitl [Ho]; · iexact Ho
    iexact Z10
  iintro HF
  iapply (wp_inStartAhead c arg0 arg1 arg6 arg8 arg9 arg11 Vi Vm 𝒱 Q h k) $$ [Hh Hm Hi Z9 Z11]
  · isplitl [Hh]; · iexact Hh
    unfold idleIn
    isplitl [Hm]; · iexact Hm
    isplitl [Hi]; · iexact Hi
    isplitl [Z9]; · iexact Z9
    iexact Z11
  iintro HB
  iapply Hk
  isplitl [HI Bm Bi HB]
  · iapply HI
    isplitl [Bm Bi]
    · isplitl [Bm]; · iexact Bm
      iexact Bi
    iexact HB
  isplitl [HOut HR HF]
  · iapply HOut
    isplitl [HR]; · iexact HR
    iexact HF
  isplitl [H2 H3 H4]
  · isplitl [H2]; · iexact H2
    isplitl [H3]; · iexact H3
    iexact H4
  iexact HW

/-- A copy out of the last four collected. -/
theorem wp_endStep (𝒱 : Variants) (Q : PUnit → sProp 𝕄) {i : ℕ} (hi : 60 ≤ i) (h : i < 64) (k : BodyProg F) :
    iprop(bigSep (Finset.range 68) (endSt c arg5 arg7 arg10 Go (i + 4)) ∗ (∃ W : Waits sig Unit, owes (c : Thread nD τ) 0 W))
      ⊢ iprop((iprop(bigSep (Finset.range 68) (endSt c arg5 arg7 arg10 Go (i + 5)) ∗ (∃ W : Waits sig Unit, owes (c : Thread nD τ) 0 W)) -∗ wpB (F := F) c 𝒱 Q k)
          -∗ wpB (F := F) c 𝒱 Q (outWait arg5 arg7 arg10 h k)) := by
  have key := (bigSep_step₁ (S := Finset.range 68) (A := endSt c arg5 arg7 arg10 Go (i + 4)) (B := endSt c arg5 arg7 arg10 Go (i + 5)) (i + 4) (Finset.mem_range.mpr (by omega)) fun j hj => by
    unfold endSt
    by_cases h1 : j < 64
    · rw [if_pos h1, if_pos h1]
    · rw [if_neg h1, if_neg h1]
      by_cases h2 : j < i + 4
      · rw [if_pos h2, if_pos (by omega)]
      · rw [if_neg h2, if_neg (by omega)])
  have e1 : endSt c arg5 arg7 arg10 Go (i + 4) (i + 4) = flyOut c arg5 arg7 arg10 Go h := by
    unfold endSt busyOut; rw [if_neg (by omega), if_neg (by omega), dif_pos (by omega)]; try rfl
  have e2 : endSt c arg5 arg7 arg10 Go (i + 5) (i + 4) = iprop(held c (outBlk arg5 h) Go ∗ idleOut F c arg7 arg10 (m4 i)) := by
    unfold endSt rowsOut
    rw [if_neg (by omega), if_pos (by omega), dif_pos (by omega), idleOut_congr c arg7 arg10 (by omega : (i + 4) % 4 = i % 4) (m4 (i + 4)) (m4 i)]; try rfl
  rw [e1, e2] at key
  iintro ⟨HE, %W, HW⟩ Hk
  ihave HE := key $$ HE
  icases HE with ⟨HF, HE⟩
  iapply (wp_outWait c arg5 arg7 arg10 Go 𝒱 Q h k W) $$ [HF HW]
  · isplitl [HF]; · iexact HF
    iexact HW
  iintro ⟨Hb, Hs, Hz, HO⟩
  iapply Hk
  isplitr [HO]
  · iapply HE
    isplitl [Hb]; · iexact Hb
    unfold idleOut
    isplitl [Hs]; · iexact Hs
    iexact Hz
  iexact HO

theorem wp_startsFrom (𝒱 : Variants) (Q : PUnit → sProp 𝕄) (n : ℕ) (hn : n ≤ 10) (k : BodyProg F) :
    bigSep (Finset.range 74) (preSt c arg0 arg1 arg6 arg8 arg9 arg11 Vi Vm (10 - n))
      ⊢ iprop((bigSep (Finset.range 74) (preSt c arg0 arg1 arg6 arg8 arg9 arg11 Vi Vm 10) -∗ wpB (F := F) c 𝒱 Q k)
          -∗ wpB (F := F) c 𝒱 Q (startsFrom arg0 arg1 arg6 arg8 arg9 arg11 n k)) := by
  induction n with
  | zero =>
    unfold startsFrom
    iintro H Hk
    iapply Hk $$ H
  | succ n ih =>
    have h : 9 - n < 64 := by omega
    unfold startsFrom
    rw [dif_pos h, show 10 - (n + 1) = 9 - n by omega]
    iintro H Hk
    iapply (wp_startStep c arg0 arg1 arg6 arg8 arg9 arg11 Vi Vm 𝒱 Q (by omega : 9 - n < 10) h _) $$ H
    rw [show 9 - n + 1 = 10 - n by omega]
    iintro H
    iapply (ih (by omega)) $$ H
    iexact Hk

theorem wp_chunksFrom (𝒱 : Variants) (Q : PUnit → sProp 𝕄)
    (hG : ∀ (i : ℕ) (h : i < 64), (outBlk arg5 h).view.read (Elt F) Go = rowsAt c arg0 arg1 arg2 arg3 arg4 Vi Vm f2 f3 f4 h)
    (n : ℕ) (hn : n ≤ 64) (k : BodyProg F) :
    atChunk c arg0 arg1 arg2 arg3 arg4 arg5 arg6 arg7 arg8 arg9 arg10 arg11 Vi Vm f2 f3 f4 Vo Go (64 - n)
      ⊢ iprop((atChunk c arg0 arg1 arg2 arg3 arg4 arg5 arg6 arg7 arg8 arg9 arg10 arg11 Vi Vm f2 f3 f4 Vo Go 64 -∗ wpB (F := F) c 𝒱 Q k)
          -∗ wpB (F := F) c 𝒱 Q (chunksFrom arg0 arg1 arg2 arg3 arg4 arg5 arg6 arg7 arg8 arg9 arg10 arg11 n k)) := by
  induction n with
  | zero =>
    unfold chunksFrom
    iintro H Hk
    iapply Hk $$ H
  | succ n ih =>
    have h : 63 - n < 64 := by omega
    unfold chunksFrom
    rw [dif_pos h, show 64 - (n + 1) = 63 - n by omega]
    iintro H Hk
    iapply (wp_chunk c arg0 arg1 arg2 arg3 arg4 arg5 arg6 arg7 arg8 arg9 arg10 arg11 Vi Vm f2 f3 f4 Vo Go 𝒱 Q h _ (hG _ h)) $$ H
    rw [show 63 - n + 1 = 64 - n by omega]
    iintro H
    iapply (ih (by omega)) $$ H
    iexact Hk

theorem wp_waitsFrom (𝒱 : Variants) (Q : PUnit → sProp 𝕄) (n : ℕ) (hn : n ≤ 4) (k : BodyProg F) :
    iprop(bigSep (Finset.range 68) (endSt c arg5 arg7 arg10 Go (68 - n)) ∗ (∃ W : Waits sig Unit, owes (c : Thread nD τ) 0 W))
      ⊢ iprop((iprop(bigSep (Finset.range 68) (endSt c arg5 arg7 arg10 Go 68) ∗ (∃ W : Waits sig Unit, owes (c : Thread nD τ) 0 W)) -∗ wpB (F := F) c 𝒱 Q k)
          -∗ wpB (F := F) c 𝒱 Q (waitsFrom arg5 arg7 arg10 n k)) := by
  induction n with
  | zero =>
    unfold waitsFrom
    iintro H Hk
    iapply Hk $$ H
  | succ n ih =>
    have h : 63 - n < 64 := by omega
    unfold waitsFrom
    rw [dif_pos h, show 68 - (n + 1) = 63 - n + 4 by omega]
    iintro H Hk
    iapply (wp_endStep c arg5 arg7 arg10 Go 𝒱 Q (by omega) h _) $$ H
    rw [show 63 - n + 5 = 68 - n by omega]
    iintro H
    iapply (ih (by omega)) $$ H
    iexact Hk

theorem inSt_zero (j : ℕ) : preSt c arg0 arg1 arg6 arg8 arg9 arg11 Vi Vm 10 j = inSt c arg0 arg1 arg6 arg8 arg9 arg11 Vi Vm 0 j := by
  unfold preSt inSt
  rw [if_neg (Nat.not_lt_zero j), Nat.zero_add]
  by_cases h : j < 10
  · rw [if_pos h, if_pos h]
  · rw [if_neg h, if_neg h, if_neg h]

theorem endSt_first (k : ℕ) (h : k < 68) : outSt c arg5 arg7 arg10 Vo Go 64 k = endSt c arg5 arg7 arg10 Go 64 k := by
  unfold outSt endSt
  by_cases h1 : k < 64
  · rw [if_pos h1, if_pos h1]
  · rw [if_neg h1, if_neg h1, if_pos (by omega), if_neg h1]

/-- The whole body: from every block at home and every slot free to every block at home, every slot free, and the
    result's blocks at `Go`. -/
theorem wp_loop (𝒱 : Variants) (Q : PUnit → sProp 𝕄)
    (hG : ∀ (i : ℕ) (h : i < 64), (outBlk arg5 h).view.read (Elt F) Go = rowsAt c arg0 arg1 arg2 arg3 arg4 Vi Vm f2 f3 f4 h) :
    iprop(bigSep (Finset.range 74) (preSt c arg0 arg1 arg6 arg8 arg9 arg11 Vi Vm 0) ∗ bigSep (Finset.range 68) (outSt c arg5 arg7 arg10 Vo Go 0)
        ∗ (held c arg2 f2 ∗ held c arg3 f3 ∗ held c arg4 f4) ∗ (∃ W : Waits sig Unit, owes (c : Thread nD τ) 0 W))
      ⊢ iprop((iprop(bigSep (Finset.range 74) (inSt c arg0 arg1 arg6 arg8 arg9 arg11 Vi Vm 64) ∗ bigSep (Finset.range 68) (endSt c arg5 arg7 arg10 Go 68)
            ∗ (held c arg2 f2 ∗ held c arg3 f3 ∗ held c arg4 f4) ∗ (∃ W : Waits sig Unit, owes (c : Thread nD τ) 0 W)) -∗ Q ⟨⟩)
          -∗ wpB (F := F) c 𝒱 Q (loop arg0 arg1 arg2 arg3 arg4 arg5 arg6 arg7 arg8 arg9 arg10 arg11)) := by
  unfold loop
  iintro ⟨HI, HOut, H, HW⟩ HQ
  iapply (wp_startsFrom c arg0 arg1 arg6 arg8 arg9 arg11 Vi Vm 𝒱 Q 10 le_rfl _) $$ HI
  rw [bigSep_congr fun j _ => inSt_zero c arg0 arg1 arg6 arg8 arg9 arg11 Vi Vm j]
  iintro HI
  iapply (wp_chunksFrom c arg0 arg1 arg2 arg3 arg4 arg5 arg6 arg7 arg8 arg9 arg10 arg11 Vi Vm f2 f3 f4 Vo Go 𝒱 Q hG 64 le_rfl _) $$ [HI HOut H HW]
  · unfold atChunk
    isplitl [HI]; · iexact HI
    isplitl [HOut]; · iexact HOut
    isplitl [H]; · iexact H
    iexact HW
  unfold atChunk
  rw [bigSep_congr (Φ := outSt c arg5 arg7 arg10 Vo Go 64) fun j hj => endSt_first c arg5 arg7 arg10 Vo Go j (Finset.mem_range.mp hj)]
  iintro ⟨HI, HOut, H, HW⟩
  iapply (wp_waitsFrom c arg5 arg7 arg10 Go 𝒱 Q 4 le_rfl _) $$ [HOut HW]
  · isplitl [HOut]; · iexact HOut
    iexact HW
  iintro ⟨HOut, HW⟩
  rw [show wpB (F := F) c 𝒱 Q (.ret ⟨⟩) = iprop(|={Set.univ}[frame]=> Q ⟨⟩) from rfl]
  imodintro
  iapply HQ
  isplitl [HI]; · iexact HI
  isplitl [HOut]; · iexact HOut
  isplitl [H]; · iexact H
  iexact HW

end Loop

end Cert.KernelIdeal.Hand

end
-- ==== Proof.KernelIdeal.Ends.lean ====
/-
  The two ends of the body. The rings' states before the first chunk and after the last one are the whole arrays, the
  whole buffers and the semaphores at zero, counted another way: an array is the conjunction of its 64 blocks, a
  buffer of its slots, and a conjunction over a window of numbers is one over that many blocks.
-/
module

public import proofs.«01_k».proof.Proof.KernelIdeal.Loop

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the proof speaks of. -/
local notation "𝕄" => MT nD τ sig Unit (Elt F) ℕ (Pipeline.UD sig nD τ) ℕ

/-- A conjunction over a range whose members say nothing outside a window of `n` numbers from `o` on is one over `n`
    numbers. -/
theorem bigSep_window {M : Type} [URA M] {N o n : ℕ} (hn : o + n ≤ N) (A : ℕ → sProp M) (Φ : Fin n → sProp M)
    (hin : ∀ b : Fin n, A (b.val + o) = Φ b) (hout : ∀ j, ¬ (o ≤ j ∧ j - o < n) → A j = (BI.emp : sProp M)) :
    bigSep (Finset.range N) A = bigSep Finset.univ Φ := by
  let e : Fin n ↪ ℕ := ⟨fun b => b.val + o, fun a b h => Fin.ext (Nat.add_right_cancel h)⟩
  have hs : (Finset.range N).filter (fun j => o ≤ j ∧ j - o < n) = Finset.univ.map e := by
    ext j
    rw [Finset.mem_filter, Finset.mem_range, Finset.mem_map]
    constructor
    · rintro ⟨-, h1, h2⟩
      exact ⟨⟨j - o, h2⟩, Finset.mem_univ _, Nat.sub_add_cancel h1⟩
    · rintro ⟨b, -, rfl⟩
      have := b.isLt
      show b.val + o < N ∧ o ≤ b.val + o ∧ b.val + o - o < n
      omega
  have h2 := bigSep_filter (Finset.range N) (fun j => o ≤ j ∧ j - o < n) A
  rw [hs, bigSep_map] at h2
  rw [bigSep_congr (Φ := A) (Ψ := fun j => if o ≤ j ∧ j - o < n then A j else BI.emp) fun j _ => by
    by_cases h : o ≤ j ∧ j - o < n
    · rw [if_pos h]
    · rw [if_neg h]; exact hout j h, ← h2]
  exact bigSep_congr fun b _ => hin b

theorem emp_sep_eq {M : Type} [URA M] (P : sProp M) : iprop(emp ∗ P) = P := equiv_iff.mp emp_sep
theorem sep_emp_eq {M : Type} [URA M] (P : sProp M) : iprop(P ∗ emp) = P := equiv_iff.mp sep_emp

theorem sep_swap {M : Type} [URA M] (P Q : sProp M) : iprop(P ∗ Q) = iprop(Q ∗ P) :=
  equiv_iff.mp ⟨BI.sep_comm, BI.sep_comm⟩

/-- `bigSep_sep` with the conjunction as this file writes it. -/
theorem bigSep_both {I M : Type} [URA M] (s : Finset I) (Φ Ψ : I → sProp M) :
    bigSep s (fun i => iprop(Φ i ∗ Ψ i)) = iprop(bigSep s Φ ∗ bigSep s Ψ) := bigSep_sep s Φ Ψ

/-- Four places on, in a ring of ten. -/
def fourOn : Fin 10 ≃ Fin 10 where
  toFun s := ⟨(s.val + 4) % 10, m10 _⟩
  invFun s := ⟨(s.val + 6) % 10, m10 _⟩
  left_inv s := Fin.ext (by have := s.2; show ((s.val + 4) % 10 + 6) % 10 = s.val; omega)
  right_inv s := Fin.ext (by have := s.2; show ((s.val + 6) % 10 + 4) % 10 = s.val; omega)

section Rings

variable (c : Dev nD)
variable (arg0 : Memref sig .tc .hbm S64x8x400 .i32) (arg1 : Memref sig .tc .hbm S204800x109 .f32)
  (arg5 : Memref sig .tc .hbm S204800x128 .f32) (arg6 : Memref sig .tc .vmem S10x3200x109 .f32)
  (arg7 : Memref sig .tc .vmem S4x3200x128 .f32) (arg8 : Memref sig .tc .vmem S10x8x400 .i32)
  (arg9 : DmaSems sig S10) (arg10 : DmaSems sig S4) (arg11 : DmaSems sig S10)
  (Vi : Con F c arg0) (Vm : Con F c arg1) (Vo Go : Con F c arg5)

/-- The blocks of the two arrays read, -/
theorem home_range : bigSep (Finset.range 74) (home c arg0 arg1 Vi Vm)
    = iprop((bigSep Finset.univ fun b : Fin 64 => held c (modBlk arg1 b.2) Vm) ∗ bigSep Finset.univ fun b : Fin 64 => held c (idxBlk arg0 b.2) Vi) := by
  rw [bigSep_window (o := 0) (n := 64) (by decide) _ (fun b : Fin 64 => iprop(held c (modBlk arg1 b.2) Vm ∗ held c (idxBlk arg0 b.2) Vi))
    (fun b => by unfold home; exact dif_pos b.2) (fun j h => by unfold home; exact dif_neg (by omega))]
  exact bigSep_both _ _ _

/-- those of the array written. -/
theorem rowsOut_range (V : Con F c arg5) : bigSep (Finset.range 68) (rowsOut c arg5 V) = bigSep Finset.univ fun b : Fin 64 => held c (outBlk arg5 b.2) V :=
  bigSep_window (o := 4) (n := 64) (by decide) _ _
    (fun b => by unfold rowsOut; rw [dif_pos (show 4 ≤ b.val + 4 ∧ b.val + 4 - 4 < 64 from ⟨by omega, by have := b.2; omega⟩)]; rfl)
    (fun j h => by unfold rowsOut; exact dif_neg h)

/-- All the free slots of the two rings in, and of the ring out. -/
theorem idleIn_univ : (bigSep Finset.univ fun s : Fin 10 => idleIn F c arg6 arg8 arg9 arg11 s.2)
    = iprop((bigSep Finset.univ fun s : Fin 10 => anyMod F c arg6 s.2) ∗ (bigSep Finset.univ fun s : Fin 10 => anyIdx F c arg8 s.2)
        ∗ (bigSep Finset.univ fun s : Fin 10 => zero10 F c arg9 s.2) ∗ bigSep Finset.univ fun s : Fin 10 => zero10 F c arg11 s.2) := by
  rw [← bigSep_both, ← bigSep_both, ← bigSep_both]; rfl
theorem idleOut_univ : (bigSep Finset.univ fun s : Fin 4 => idleOut F c arg7 arg10 s.2)
    = iprop((bigSep Finset.univ fun s : Fin 4 => anyOut F c arg7 s.2) ∗ bigSep Finset.univ fun s : Fin 4 => zero4 F c arg10 s.2) := by
  rw [← bigSep_both]; rfl

/-- Before the first copy in: every slot free, every block at home. -/
theorem pre_zero : bigSep (Finset.range 74) (preSt c arg0 arg1 arg6 arg8 arg9 arg11 Vi Vm 0)
    = iprop((bigSep Finset.univ fun s : Fin 10 => idleIn F c arg6 arg8 arg9 arg11 s.2) ∗ bigSep (Finset.range 74) (home c arg0 arg1 Vi Vm)) := by
  rw [← bigSep_window (N := 74) (o := 0) (n := 10) (by decide) (fun j => if j < 10 then idleIn F c arg6 arg8 arg9 arg11 (m10 j) else iprop(emp))
      (fun s : Fin 10 => idleIn F c arg6 arg8 arg9 arg11 s.2)
      (fun b => (if_pos b.2).trans (idleIn_congr c arg6 arg8 arg9 arg11 (Nat.mod_eq_of_lt b.2) _ _))
      (fun j h => if_neg (by omega)), ← bigSep_both]
  refine bigSep_congr fun j _ => ?_
  unfold preSt
  rw [if_neg (Nat.not_lt_zero j)]
  by_cases h : j < 10
  · simp only [if_pos h]
  · simp only [if_neg h]; exact (emp_sep_eq _).symm

/-- After the last chunk: every block back, the slots free — the one number past the last block takes is its own number
    less 64, modulo ten. -/
theorem in_last : bigSep (Finset.range 74) (inSt c arg0 arg1 arg6 arg8 arg9 arg11 Vi Vm 64)
    = iprop((bigSep Finset.univ fun s : Fin 10 => idleIn F c arg6 arg8 arg9 arg11 s.2) ∗ bigSep (Finset.range 74) (home c arg0 arg1 Vi Vm)) := by
  rw [bigSep_univ_equiv fourOn (fun s : Fin 10 => idleIn F c arg6 arg8 arg9 arg11 s.2),
    ← bigSep_window (N := 74) (o := 64) (n := 10) (by decide) (fun j => if 64 ≤ j ∧ j - 64 < 10 then idleIn F c arg6 arg8 arg9 arg11 (m10 j) else iprop(emp))
      (fun s : Fin 10 => idleIn F c arg6 arg8 arg9 arg11 (fourOn s).2)
      (fun b => (if_pos (by have := b.2; omega)).trans (idleIn_congr c arg6 arg8 arg9 arg11 (by show (b.val + 64) % 10 = (b.val + 4) % 10; omega) _ _))
      (fun j h => if_neg h), ← bigSep_both]
  refine bigSep_congr fun j hj => ?_
  have hj := Finset.mem_range.mp hj
  unfold inSt
  by_cases h : j < 64
  · rw [if_pos h, if_neg (by omega)]; exact (emp_sep_eq _).symm
  · rw [if_neg h, if_pos (by omega : j < 64 + 10), if_pos (by omega)]
    unfold busyIn home
    rw [dif_neg h, dif_neg h]; exact (sep_emp_eq _).symm

/-- Before the first chunk nothing is on its way out; -/
theorem out_zero : bigSep (Finset.range 68) (outSt c arg5 arg7 arg10 Vo Go 0)
    = iprop((bigSep Finset.univ fun s : Fin 4 => idleOut F c arg7 arg10 s.2) ∗ bigSep (Finset.range 68) (rowsOut c arg5 Vo)) := by
  rw [← bigSep_window (N := 68) (o := 0) (n := 4) (by decide) (fun j => if j < 4 then idleOut F c arg7 arg10 (m4 j) else iprop(emp))
      (fun s : Fin 4 => idleOut F c arg7 arg10 s.2)
      (fun b => (if_pos b.2).trans (idleOut_congr c arg7 arg10 (Nat.mod_eq_of_lt b.2) _ _))
      (fun j h => if_neg (by omega)), ← bigSep_both]
  refine bigSep_congr fun j _ => ?_
  unfold outSt
  rw [if_neg (Nat.not_lt_zero j)]
  by_cases h : j < 4
  · rw [if_pos (by omega : j < 0 + 4), if_pos h]
    unfold busyOut rowsOut
    rw [dif_neg (by omega), dif_neg (by omega)]; exact (sep_emp_eq _).symm
  · rw [if_neg (by omega : ¬ j < 0 + 4), if_neg h]; exact (emp_sep_eq _).symm

/-- nor after the last copy out is collected. -/
theorem end_last : bigSep (Finset.range 68) (endSt c arg5 arg7 arg10 Go 68)
    = iprop((bigSep Finset.univ fun s : Fin 4 => idleOut F c arg7 arg10 s.2) ∗ bigSep (Finset.range 68) (rowsOut c arg5 Go)) := by
  rw [← bigSep_window (N := 68) (o := 64) (n := 4) (by decide) (fun j => if 64 ≤ j ∧ j - 64 < 4 then idleOut F c arg7 arg10 (m4 j) else iprop(emp))
      (fun s : Fin 4 => idleOut F c arg7 arg10 s.2)
      (fun b => (if_pos (by have := b.2; omega)).trans (idleOut_congr c arg7 arg10 (by have := b.2; omega) _ _))
      (fun j h => if_neg h), ← bigSep_both]
  refine bigSep_congr fun j hj => ?_
  have hj := Finset.mem_range.mp hj
  unfold endSt
  by_cases h : j < 64
  · rw [if_pos h, if_neg (by omega)]; exact (emp_sep_eq _).symm
  · rw [if_neg h, if_pos hj, if_pos (by omega)]
    exact sep_swap _ _

end Rings

/-! ## Whole arrays and buffers by their blocks -/

/-- Members holding the same contents are members holding something. -/
theorem bigSep_some {I X M : Type} [URA M] {s : Finset I} (Φ : I → X → sProp M) (x : X) : bigSep s (fun i => Φ i x) ⊢ bigSep s (fun i => iprop(∃ y, Φ i y)) := by
  refine bigSep_mono fun i _ => ?_
  show Φ i x ⊢ iprop(∃ y, Φ i y)
  iintro H
  iexists x; iexact H

section Wholes

variable (c : Dev nD)

section Lead

variable {n : ℕ} (b : Ref sig .tc) (a₀ : Fin b.ty.shape.rank) (R : ℕ) (off : Fin n → Fin b.ty.shape.rank → ℕ) (size : Fin b.ty.shape.rank → ℕ)
  (inb : ∀ j a, off j a + size a ≤ b.ty.shape.size a) (hoff₀ : ∀ j, off j a₀ = R * j.val) (hoff : ∀ j a, a ≠ a₀ → off j a = 0)
  (hsz₀ : size a₀ = R) (hsz : ∀ a, a ≠ a₀ → size a = b.ty.shape.size a) (hN : n * R = b.ty.shape.size a₀)

include hoff₀ hoff hsz₀ hsz hN in
/-- A buffer cut along one axis is its pieces. -/
theorem whole_cut (f : Buf (Elt F) ((c : Thread nD τ).loc b)) :
    (((c : Thread nD τ).loc b) ↦{fullShare} f : sProp 𝕄)
      = bigSep Finset.univ fun j : Fin n => held c ((Memref.whole b).slice (Rect.unit (off j) size (inb j)) (fun _ => rfl)) f := by
  have hd := Ring.lead_disjoint (s := b.ty.shape) a₀ R off size inb hoff₀ hsz₀
  have hc := Ring.lead_cover (s := b.ty.shape) a₀ R off size inb hoff₀ hoff hsz₀ hsz hN
  refine (Ring.pointsTo_blocks (ℓ := (c : Thread nD τ).loc b) (fun j : Fin n => (Rect.unit (s := b.ty.shape) (off j) size (inb j)).set) hd hc f).trans (bigSep_congr fun j _ => ?_)
  unfold held
  rw [View.set_slice_whole]

include hoff₀ hoff hsz₀ hsz hN in
/-- A buffer holding something is pieces holding something, -/
theorem whole_split : (iprop(∃ f : Buf (Elt F) ((c : Thread nD τ).loc b), ((c : Thread nD τ).loc b) ↦{fullShare} f) : sProp 𝕄)
    ⊢ bigSep Finset.univ fun j : Fin n => iprop(∃ f : Con F c ((Memref.whole b).slice (Rect.unit (off j) size (inb j)) (fun _ => rfl)),
        held c ((Memref.whole b).slice (Rect.unit (off j) size (inb j)) (fun _ => rfl)) f) := by
  have key : ∀ f : Buf (Elt F) ((c : Thread nD τ).loc b), (((c : Thread nD τ).loc b) ↦{fullShare} f : sProp 𝕄)
      ⊢ bigSep Finset.univ fun j : Fin n => iprop(∃ f : Con F c ((Memref.whole b).slice (Rect.unit (off j) size (inb j)) (fun _ => rfl)),
        held c ((Memref.whole b).slice (Rect.unit (off j) size (inb j)) (fun _ => rfl)) f) := fun f => by
    rw [whole_cut c b a₀ R off size inb hoff₀ hoff hsz₀ hsz hN f]
    exact bigSep_some _ f
  iintro ⟨%f, H⟩
  iapply (key f) $$ H

include hoff₀ hoff hsz₀ hsz hN in
/-- Pieces holding anything are the buffer holding something. -/
theorem whole_join (f₀ : Buf (Elt F) ((c : Thread nD τ).loc b)) :
    (bigSep Finset.univ fun j : Fin n => iprop(∃ f : Con F c ((Memref.whole b).slice (Rect.unit (off j) size (inb j)) (fun _ => rfl)),
        held c ((Memref.whole b).slice (Rect.unit (off j) size (inb j)) (fun _ => rfl)) f))
      ⊢ (iprop(∃ f : Buf (Elt F) ((c : Thread nD τ).loc b), ((c : Thread nD τ).loc b) ↦{fullShare} f) : sProp 𝕄) := by
  have hd := Ring.lead_disjoint (s := b.ty.shape) a₀ R off size inb hoff₀ hsz₀
  have hc := Ring.lead_cover (s := b.ty.shape) a₀ R off size inb hoff₀ hoff hsz₀ hsz hN
  refine .trans ?_ (Ring.pointsTo_blocks_join_exists (ℓ := (c : Thread nD τ).loc b) (fun j : Fin n => (Rect.unit (s := b.ty.shape) (off j) size (inb j)).set) hd hc f₀)
  refine bigSep_mono fun j _ => ?_
  unfold held
  rw [View.set_slice_whole]
  exact fun _ h => h

end Lead

theorem lead2 {x y : ℕ} : ∀ a : Fin 2, a ≠ 0 → (![x, y] : Fin 2 → ℕ) a = y
  | 0, h => absurd rfl h
  | 1, _ => rfl
theorem lead3 {x y z : ℕ} {f : Fin 3 → ℕ} (h1 : f 1 = y) (h2 : f 2 = z) : ∀ a : Fin 3, a ≠ 0 → (![x, y, z] : Fin 3 → ℕ) a = f a
  | 0, h => absurd rfl h
  | 1, _ => h1.symm
  | 2, _ => h2.symm

/-- The features in HBM, -/
theorem mod_blocks (f : Buf (Elt F) ((c : Thread nD τ).loc main_v33)) :
    (((c : Thread nD τ).loc main_v33) ↦{fullShare} f : sProp 𝕄) = bigSep Finset.univ fun b : Fin 64 => held c (modBlk (Memref.whole main_v33) b.2) f :=
  whole_cut c main_v33 (0 : Fin 2) 3200 (fun b : Fin 64 => ![3200 * b.val, 0]) S3200x109.size (fun b => inbMod b.2) (fun _ => rfl)
    (fun b => lead2) rfl (fun a ha => (lead2 a ha).trans (lead2 a ha).symm) rfl f
/-- the result in HBM, -/
theorem out_blocks (f : Buf (Elt F) ((c : Thread nD τ).loc main_v35)) :
    (((c : Thread nD τ).loc main_v35) ↦{fullShare} f : sProp 𝕄) = bigSep Finset.univ fun b : Fin 64 => held c (outBlk (Memref.whole main_v35) b.2) f :=
  whole_cut c main_v35 (0 : Fin 2) 3200 (fun b : Fin 64 => ![3200 * b.val, 0]) S3200x128.size (fun b => inbOut b.2) (fun _ => rfl)
    (fun b => lead2) rfl (fun a ha => (lead2 a ha).trans (lead2 a ha).symm) rfl f
/-- the indices in HBM. -/
theorem idx_blocks (f : Buf (Elt F) ((c : Thread nD τ).loc main_v34)) :
    (((c : Thread nD τ).loc main_v34) ↦{fullShare} f : sProp 𝕄) = bigSep Finset.univ fun b : Fin 64 => held c (idxBlk (Memref.whole main_v34) b.2) f := by
  refine (whole_cut c main_v34 (0 : Fin 3) 1 (fun b : Fin 64 => ![b.val, 0, 0]) S1x8x400.size (fun b => inbIdx b.2) (fun b => (Nat.one_mul _).symm)
    (fun b => lead3 (f := fun _ => 0) rfl rfl) rfl (lead3 (f := S64x8x400.size) rfl rfl) rfl f).trans (bigSep_congr fun b _ => ?_)
  unfold held
  rw [View.set_reshape]

/-- A slot of a ring and the box it is cut out of hold the same elements. -/
theorem anyMod_eq (m : Memref sig .tc .vmem S10x3200x109 .f32) {s : ℕ} (h : s < 10) :
    anyMod F c m h = iprop(∃ f : Con F c (m.slice (Rect.unit (s := S10x3200x109) ![s, 0, 0] S1x3200x109.size (inbModSlot h)) (fun _ => rfl)),
      held c (m.slice (Rect.unit (s := S10x3200x109) ![s, 0, 0] S1x3200x109.size (inbModSlot h)) (fun _ => rfl)) f) := by
  unfold anyMod held
  rw [View.set_reshape]
theorem anyIdx_eq (m : Memref sig .tc .vmem S10x8x400 .i32) {s : ℕ} (h : s < 10) :
    anyIdx F c m h = iprop(∃ f : Con F c (m.slice (Rect.unit (s := S10x8x400) ![s, 0, 0] S1x8x400.size (inbIdxSlot h)) (fun _ => rfl)),
      held c (m.slice (Rect.unit (s := S10x8x400) ![s, 0, 0] S1x8x400.size (inbIdxSlot h)) (fun _ => rfl)) f) := by
  unfold anyIdx held
  rw [View.set_reshape]
theorem anyOut_eq (m : Memref sig .tc .vmem S4x3200x128 .f32) {s : ℕ} (h : s < 4) :
    anyOut F c m h = iprop(∃ f : Con F c (m.slice (Rect.unit (s := S4x3200x128) ![s, 0, 0] S1x3200x128.size (inbOutSlot h)) (fun _ => rfl)),
      held c (m.slice (Rect.unit (s := S4x3200x128) ![s, 0, 0] S1x3200x128.size (inbOutSlot h)) (fun _ => rfl)) f) := by
  unfold anyOut held
  rw [View.set_reshape]

/-- The features' ring buffer is its ten slots, -/
theorem mod_slots : iprop(∃ f : Buf (Elt F) ((c : Thread nD τ).loc cc0_scratch0), ((c : Thread nD τ).loc cc0_scratch0) ↦{fullShare} f)
    ⊢ (bigSep Finset.univ fun s : Fin 10 => anyMod F c (Memref.whole cc0_scratch0) s.2 : sProp 𝕄) := by
  rw [bigSep_congr fun s _ => anyMod_eq c (Memref.whole cc0_scratch0) (Fin.isLt s)]
  exact whole_split c cc0_scratch0 (0 : Fin 3) 1 (fun b : Fin 10 => ![b.val, 0, 0]) S1x3200x109.size (fun b => inbModSlot b.2) (fun b => (Nat.one_mul _).symm)
    (fun b => lead3 (f := fun _ => 0) rfl rfl) rfl (lead3 (f := S10x3200x109.size) rfl rfl) rfl
theorem mod_unslots : (bigSep Finset.univ fun s : Fin 10 => anyMod F c (Memref.whole cc0_scratch0) s.2 : sProp 𝕄)
    ⊢ iprop(∃ f : Buf (Elt F) ((c : Thread nD τ).loc cc0_scratch0), ((c : Thread nD τ).loc cc0_scratch0) ↦{fullShare} f) := by
  rw [bigSep_congr fun s _ => anyMod_eq c (Memref.whole cc0_scratch0) (Fin.isLt s)]
  exact whole_join c cc0_scratch0 (0 : Fin 3) 1 (fun b : Fin 10 => ![b.val, 0, 0]) S1x3200x109.size (fun b => inbModSlot b.2) (fun b => (Nat.one_mul _).symm)
    (fun b => lead3 (f := fun _ => 0) rfl rfl) rfl (lead3 (f := S10x3200x109.size) rfl rfl) rfl (fun _ => FloatOps.ofBits .f32 0)
/-- the indices' its ten, -/
theorem idx_slots : iprop(∃ f : Buf (Elt F) ((c : Thread nD τ).loc cc0_scratch2), ((c : Thread nD τ).loc cc0_scratch2) ↦{fullShare} f)
    ⊢ (bigSep Finset.univ fun s : Fin 10 => anyIdx F c (Memref.whole cc0_scratch2) s.2 : sProp 𝕄) := by
  rw [bigSep_congr fun s _ => anyIdx_eq c (Memref.whole cc0_scratch2) (Fin.isLt s)]
  exact whole_split c cc0_scratch2 (0 : Fin 3) 1 (fun b : Fin 10 => ![b.val, 0, 0]) S1x8x400.size (fun b => inbIdxSlot b.2) (fun b => (Nat.one_mul _).symm)
    (fun b => lead3 (f := fun _ => 0) rfl rfl) rfl (lead3 (f := S10x8x400.size) rfl rfl) rfl
theorem idx_unslots : (bigSep Finset.univ fun s : Fin 10 => anyIdx F c (Memref.whole cc0_scratch2) s.2 : sProp 𝕄)
    ⊢ iprop(∃ f : Buf (Elt F) ((c : Thread nD τ).loc cc0_scratch2), ((c : Thread nD τ).loc cc0_scratch2) ↦{fullShare} f) := by
  rw [bigSep_congr fun s _ => anyIdx_eq c (Memref.whole cc0_scratch2) (Fin.isLt s)]
  exact whole_join c cc0_scratch2 (0 : Fin 3) 1 (fun b : Fin 10 => ![b.val, 0, 0]) S1x8x400.size (fun b => inbIdxSlot b.2) (fun b => (Nat.one_mul _).symm)
    (fun b => lead3 (f := fun _ => 0) rfl rfl) rfl (lead3 (f := S10x8x400.size) rfl rfl) rfl (fun _ => (0 : BitVec 32))
/-- the results' its four. -/
theorem out_slots : iprop(∃ f : Buf (Elt F) ((c : Thread nD τ).loc cc0_scratch1), ((c : Thread nD τ).loc cc0_scratch1) ↦{fullShare} f)
    ⊢ (bigSep Finset.univ fun s : Fin 4 => anyOut F c (Memref.whole cc0_scratch1) s.2 : sProp 𝕄) := by
  rw [bigSep_congr fun s _ => anyOut_eq c (Memref.whole cc0_scratch1) (Fin.isLt s)]
  exact whole_split c cc0_scratch1 (0 : Fin 3) 1 (fun b : Fin 4 => ![b.val, 0, 0]) S1x3200x128.size (fun b => inbOutSlot b.2) (fun b => (Nat.one_mul _).symm)
    (fun b => lead3 (f := fun _ => 0) rfl rfl) rfl (lead3 (f := S4x3200x128.size) rfl rfl) rfl
theorem out_unslots : (bigSep Finset.univ fun s : Fin 4 => anyOut F c (Memref.whole cc0_scratch1) s.2 : sProp 𝕄)
    ⊢ iprop(∃ f : Buf (Elt F) ((c : Thread nD τ).loc cc0_scratch1), ((c : Thread nD τ).loc cc0_scratch1) ↦{fullShare} f) := by
  rw [bigSep_congr fun s _ => anyOut_eq c (Memref.whole cc0_scratch1) (Fin.isLt s)]
  exact whole_join c cc0_scratch1 (0 : Fin 3) 1 (fun b : Fin 4 => ![b.val, 0, 0]) S1x3200x128.size (fun b => inbOutSlot b.2) (fun b => (Nat.one_mul _).symm)
    (fun b => lead3 (f := fun _ => 0) rfl rfl) rfl (lead3 (f := S4x3200x128.size) rfl rfl) rfl (fun _ => FloatOps.ofBits .f32 0)

/-! ## The body's own semaphores, and both ends whole -/

/-- The body's own semaphores: the features' ten, the results' four, the indices' ten. -/
def osem0 : Fin 10 ⊕ (Fin 4 ⊕ Fin 10) → SemLoc sig
  | .inl s => .dma (sem10 cc0_scratch3 s.2)
  | .inr (.inl s) => .dma (sem4 cc0_scratch4 s.2)
  | .inr (.inr s) => .dma (sem10 cc0_scratch5 s.2)

theorem ownSems0_split : (Pipeline.ownSems0 (Ix := Unit) (Name := ℕ) (U := Pipeline.UD sig nD τ) (Lvl := ℕ) (Val := Elt F) (τ := τ) osem0 c : sProp 𝕄)
    = iprop((bigSep Finset.univ fun s : Fin 10 => zero10 F c cc0_scratch3 s.2) ∗ (bigSep Finset.univ fun s : Fin 4 => zero4 F c cc0_scratch4 s.2)
        ∗ bigSep Finset.univ fun s : Fin 10 => zero10 F c cc0_scratch5 s.2) := by
  unfold Pipeline.ownSems0
  rw [bigSep_univ_sum, bigSep_univ_sum]
  rfl

/-- What the body starts from and leaves: the three ring buffers, the semaphores at zero, the two arrays read at their
    contents and the one written at `V`. -/
def ends (Vi : Buf (Elt F) ((c : Thread nD τ).loc main_v34)) (Vm : Buf (Elt F) ((c : Thread nD τ).loc main_v33)) (V : Buf (Elt F) ((c : Thread nD τ).loc main_v35)) : sProp 𝕄 :=
  iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))
    ∗ ((bigSep Finset.univ fun s : Fin 10 => zero10 F c cc0_scratch3 s.2) ∗ (bigSep Finset.univ fun s : Fin 4 => zero4 F c cc0_scratch4 s.2)
        ∗ bigSep Finset.univ fun s : Fin 10 => zero10 F c cc0_scratch5 s.2)
    ∗ ((((c : Thread nD τ).loc main_v33) ↦{fullShare} Vm) ∗ (((c : Thread nD τ).loc main_v34) ↦{fullShare} Vi))
    ∗ (((c : Thread nD τ).loc main_v35) ↦{fullShare} V))

variable (Vi : Buf (Elt F) ((c : Thread nD τ).loc main_v34)) (Vm : Buf (Elt F) ((c : Thread nD τ).loc main_v33)) (Vo Go : Buf (Elt F) ((c : Thread nD τ).loc main_v35))

theorem ends_open : ends c Vi Vm Vo
    ⊢ iprop(bigSep (Finset.range 74) (preSt c (Memref.whole main_v34) (Memref.whole main_v33) (Memref.whole cc0_scratch0) (Memref.whole cc0_scratch2) cc0_scratch3 cc0_scratch5 Vi Vm 0)
        ∗ bigSep (Finset.range 68) (outSt c (Memref.whole main_v35) (Memref.whole cc0_scratch1) cc0_scratch4 Vo Go 0)) := by
  rw [pre_zero, out_zero, home_range, rowsOut_range, idleIn_univ, idleOut_univ]
  unfold ends
  rw [mod_blocks, idx_blocks, out_blocks]
  iintro ⟨⟨S0, S1, S2⟩, ⟨Z3, Z4, Z5⟩, ⟨Hm, Hi⟩, Ho⟩
  isplitr [S1 Z4 Ho]
  · isplitr [Hm Hi]
    · isplitl [S0]; · iapply (mod_slots c) $$ S0
      isplitl [S2]; · iapply (idx_slots c) $$ S2
      isplitl [Z3]; · iexact Z3
      iexact Z5
    isplitl [Hm]; · iexact Hm
    iexact Hi
  isplitr [Ho]
  · isplitl [S1]; · iapply (out_slots c) $$ S1
    iexact Z4
  iexact Ho

theorem ends_close :
    iprop(bigSep (Finset.range 74) (inSt c (Memref.whole main_v34) (Memref.whole main_v33) (Memref.whole cc0_scratch0) (Memref.whole cc0_scratch2) cc0_scratch3 cc0_scratch5 Vi Vm 64)
        ∗ bigSep (Finset.range 68) (endSt c (Memref.whole main_v35) (Memref.whole cc0_scratch1) cc0_scratch4 Go 68)) ⊢ ends c Vi Vm Go := by
  rw [in_last, end_last, home_range, rowsOut_range, idleIn_univ, idleOut_univ]
  unfold ends
  rw [mod_blocks, idx_blocks, out_blocks]
  iintro ⟨⟨⟨S0, S2, Z3, Z5⟩, Hm, Hi⟩, ⟨S1, Z4⟩, Ho⟩
  isplitl [S0 S1 S2]
  · isplitl [S0]; · iapply (mod_unslots c) $$ S0
    isplitl [S1]; · iapply (out_unslots c) $$ S1
    iapply (idx_unslots c) $$ S2
  isplitl [Z3 Z4 Z5]
  · isplitl [Z3]; · iexact Z3
    isplitl [Z4]; · iexact Z4
    iexact Z5
  isplitl [Hm Hi]
  · isplitl [Hm]; · iexact Hm
    iexact Hi
  iexact Ho

end Wholes

end Cert.KernelIdeal.Hand
-- ==== Proof.KernelIdeal.Run.lean ====
/-
  The whole program's run: the body is proved once, at its one grid point, from the whole arrays and back to them; the
  launch then gives what every buffer holds at the end — the arguments as they were, and the result's array block by
  block what its chunk computed.
-/
module

public import proofs.«01_k».proof.Proof.KernelIdeal.Ends
public import proofs.«01_k».proof.Proof.Gen.KernelIdeal.Frame
public import Idealize.ShloMosaic.Lib.ValueIdxCore

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the proof speaks of. -/
local notation "𝕄" => MT nD τ sig Unit (Elt F) ℕ (Pipeline.UD sig nD τ) ℕ

variable (m : (ℓ : Loc nD τ sig) → Buf (Elt F) ℓ) (ρ : Dev nD → PrngReg)

/-! ## What the body computes -/

/-- The only grid point. -/
abbrev t₀ : Fin cfg0.N := ⟨0, by decide⟩
theorem eq_t₀ (t : Fin cfg0.N) : t = t₀ := Fin.ext (by have := t.2; have h : cfg0.N = 1 := by decide
                                                       show t.val = 0; omega)

/-- Chunk `i`'s rows of the result, from the two arrays and the three staged operands. -/
def rowsOf (c : Dev nD) {i : ℕ} (h : i < 64) : S3200x128.Idx → Elt F .f32 :=
  fun x => k0_pay6 (boxed squeezes_S1x8x400_S8x400.numel_eq ((idxBlk (Memref.whole main_v34) h).view.read (Elt F) (V m c main_v34))) (iblk m c 0 t₀)
    (boxed squeezes_S1x3200x109_S3200x109.numel_eq ((modBlk (Memref.whole main_v33) h).view.read (Elt F) (V m c main_v33))) (iblk m c 1 t₀) (iblk m c 2 t₀)
    (Shape.reshapeEquiv squeezes_S1x3200x128_S3200x128.numel_eq x)

/-- The row of a chunk a row of the result's array is, and the chunk. -/
def rowIn (y : S204800x128.Idx) : S3200x128.Idx := ValueIdx.ix2 (⟨(y 0).val % 3200, Nat.mod_lt _ (by decide)⟩ : Fin 3200) (y 1 : Fin 128)
theorem chunkOf_lt (y : S204800x128.Idx) : (y 0).val / 3200 < 64 := by
  have h : (y 0).val < 204800 := (y 0).isLt
  omega

/-- The result's array: each row what its chunk computed. -/
def outArr (c : Dev nD) : Buf (Elt F) ((c : Thread nD τ).loc main_v35) :=
  fun y => rowsOf m c (chunkOf_lt y) (rowIn y)

theorem rowsOf_congr (c : Dev nD) {i i' : ℕ} (e : i = i') (h : i < 64) (h' : i' < 64) (x : S3200x128.Idx) : rowsOf m c h x = rowsOf m c h' x := by
  subst e; rfl

/-- Block `i` of it is chunk `i`'s rows. -/
theorem outArr_blk (c : Dev nD) {i : ℕ} (h : i < 64) : (outBlk (Memref.whole main_v35) h).view.read (Elt F) (outArr m c) = rowsOf m c h := by
  funext x
  have hx : (x 0).val < 3200 := (x 0).isLt
  have e : ∀ y : S204800x128.Idx, (y 0).val = 3200 * i + (x 0).val → (y 1).val = (x 1).val → outArr m c y = rowsOf m c h x := by
    intro y h0 h1
    unfold outArr
    rw [rowsOf_congr m c (by rw [h0]; omega : (y 0).val / 3200 = i) _ h]
    congr 1
    funext a
    match a with
    | 0 => exact Fin.ext (by show (y 0).val % 3200 = (x 0).val; rw [h0]; omega)
    | 1 => exact Fin.ext h1
  exact e ((Rect.unit (s := S204800x128) ![3200 * i, 0] S3200x128.size (inbOut h)).emb x)
    (by show 3200 * i + 1 * (x 0).val = _; omega) (by show 0 + 1 * (x 1).val = _; omega)

/-! ## The proof data -/

/-- The buffers in HBM the body reads, and the one it writes. -/
abbrev H0 : Finset (Ref sig .tc) := {main_v33, main_v34}
abbrev R0 : Finset (Ref sig .tc) := {main_v35}
theorem H0_sub : H0 ⊆ Pipeline.restRefs sig spec0 := by decide
theorem R0_sub : R0 ⊆ Pipeline.restRefs sig spec0 \ H0 := by decide
theorem ownSemFacts0 : Pipeline.OwnSemFacts spec0 osem0 := by decide

/-- The buffers after the body. -/
def Vend (c : Dev nD) (b : Ref sig .tc) : Buf (Elt F) ((c : Thread nD τ).loc b) := Function.update (V m c) main_v35 (outArr m c) b

theorem phi_eq (V' : (c : Dev nD) → (b : Ref sig .tc) → Buf (Elt F) ((c : Thread nD τ).loc b)) (c : Dev nD) :
    (Pipeline.ΦDRV osem0 spec0 H0 R0 (V m) V' c : sProp 𝕄)
      = ends c (V m c main_v34) (V m c main_v33) (V' c main_v35) := by
  unfold Pipeline.ΦDRV ends
  rw [scopedRest0_eq, ownSems0_split, BI.bigSep_eq_bigSepL_of_eq [main_v33, main_v34] (by decide) (by decide),
    BI.bigSep_eq_bigSepL_of_eq [main_v35] (by decide) (by decide)]
  rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := if t.val = 0 then Pipeline.ΦDRV osem0 spec0 H0 R0 (V m) (V m) c else Pipeline.ΦDRV osem0 spec0 H0 R0 (V m) (Vend m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

theorem phi_first (c : Dev nD) : (dats m 0 c).Φ t₀.castSucc = ends c (V m c main_v34) (V m c main_v33) (V m c main_v35) :=
  (show (dats m 0 c).Φ t₀.castSucc = Pipeline.ΦDRV osem0 spec0 H0 R0 (V m) (V m) c by dsimp only [dats]; exact if_pos rfl).trans (phi_eq m (V m) c)
theorem phi_last (c : Dev nD) : (dats m 0 c).Φ t₀.succ = ends c (V m c main_v34) (V m c main_v33) (outArr m c) :=
  (show (dats m 0 c).Φ t₀.succ = Pipeline.ΦDRV osem0 spec0 H0 R0 (V m) (Vend m) c by dsimp only [dats]; exact if_neg (by decide)).trans
    ((phi_eq m (Vend m) c).trans (by unfold Vend; rw [Function.update_self]))

/-! ## The body -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- What the staged operands read makes the loop's rows the array's. -/
theorem rows_read (c : Dev nD) (f2 : Con F c (st0_0 t₀)) (f3 : Con F c (st0_1 t₀)) (f4 : Con F c (st0_2 t₀))
    (h2 : (st0_0 t₀).view.read (Elt F) f2 = iblk m c 0 t₀) (h3 : (st0_1 t₀).view.read (Elt F) f3 = iblk m c 1 t₀) (h4 : (st0_2 t₀).view.read (Elt F) f4 = iblk m c 2 t₀)
    (i : ℕ) (h : i < 64) : (outBlk (Memref.whole main_v35) h).view.read (Elt F) (outArr m c)
      = rowsAt c (Memref.whole main_v34) (Memref.whole main_v33) (st0_0 t₀) (st0_1 t₀) (st0_2 t₀) (V m c main_v34) (V m c main_v33) f2 f3 f4 h := by
  rw [outArr_blk]
  unfold rowsOf rowsAt payAt
  rw [← h2, ← h3, ← h4]

theorem sound_body (c : Dev nD) (t : Fin cfg0.N) :
    bodyPre m c t ⊢ wp frame (wpE (defs₀ (F := F)) Variants.none c none) Set.univ (bodyAt0 t) (fun _ => bodyPost m c t) := by
  rw [eq_t₀ t]
  unfold bodyPre bodyPost bodyAt0
  rw [body_eq, phi_first, phi_last, after0_0, after0_1, after0_2]
  simp only [before0_0, before0_1, before0_2]
  unfold Dat.owesAt Pipeline.owesWithin
  rw [show (dats m 0 c).owed (t₀).castSucc = 0 from rfl, show (dats m 0 c).owed (t₀).succ = 0 from rfl]
  unfold owns
  iintro ⟨HE, ⟨%W, -, HW⟩, ⟨%d0, %f2, %h2, H2⟩, ⟨%d1, %f3, %h3, H3⟩, ⟨%d2, %f4, %h4, H4⟩⟩
  ihave HR := (ends_open c _ _ _ (outArr m c)) $$ HE
  icases HR with ⟨HI, HO⟩
  iapply (wp_loop c (Memref.whole main_v34) (Memref.whole main_v33) (st0_0 t₀) (st0_1 t₀) (st0_2 t₀) (Memref.whole main_v35) (Memref.whole cc0_scratch0)
    (Memref.whole cc0_scratch1) (Memref.whole cc0_scratch2) cc0_scratch3 cc0_scratch4 cc0_scratch5 (V m c main_v34) (V m c main_v33) f2 f3 f4 (V m c main_v35) (outArr m c)
    Variants.none _ (rows_read m c f2 f3 f4 h2 h3 h4)) $$ [HI HO H2 H3 H4 HW]
  · isplitl [HI]; · iexact HI
    isplitl [HO]; · iexact HO
    isplitl [H2 H3 H4]
    · isplitl [H2]; · iexact H2
      isplitl [H3]; · iexact H3
      iexact H4
    iexists W; iexact HW
  iintro ⟨HI, HO, ⟨H2, H3, H4⟩, ⟨%W', HW'⟩⟩
  isplitl [HI HO]
  · iapply (ends_close c (V m c main_v34) (V m c main_v33) (outArr m c))
    isplitl [HI]; · iexact HI
    iexact HO
  isplitl [HW']
  · iexists W'; isplitr; · ipureintro; exact fun _ _ => Or.inl trivial
    iexact HW'
  isplitl [H2]
  · iexists f2; isplitr; · ipureintro; exact h2
    iexact H2
  isplitl [H3]
  · iexists f3; isplitr; · ipureintro; exact h3
    iexact H3
  iexists f4; isplitr; · ipureintro; exact h4
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- The program around its one region. -/
theorem around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers at the end of core `c`'s program: the host operations after the region, from the region's end. -/
abbrev Wend (c : Dev nD) : Valuation τ sig (Elt F) :=
  StableHlo.after [hostOps1].flatten (Pipeline.withArrays spec0 c (Pipeline.withR (V0 m c) R0 c (Vend m c)) fun w => (dats m 0 c).arrAt w cfg0.N)

set_option backward.isDefEq.respectTransparency.types false in
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = Wend m c (Proc.devRef .tc b)) ∧ r.2.sem = fun _ => 0) :=
  Pipeline.θ_run_frame_dmaR_aroundV (Q' := _) (hQ' := fun _ h => h) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := Vend m)
    (hmain := around m Variants.none) (hA := A_eq m) (hin := fun _ => .rfl) (hout := fun _ => .rfl)

end Cert.KernelIdeal.Hand
-- ==== Proof.KernelIdeal.Final.lean ====
/-
  What the run leaves, read at the buffers the claims name: the four arguments hold what they held, every counter is
  zero, and the result is the written array under its three-axis shape.
-/
module

public import proofs.«01_k».proof.Proof.KernelIdeal.Run

@[expose] public section

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The line after the region writes the result's buffer only; any other buffer that is no window's array and not the
    written array holds at the end what it held when the region began. -/
theorem Wend_other (c : Dev nD) (b : Ref sig .tc) (h36 : b ≠ main_v36) (h35 : b ≠ main_v35)
    (hw : ∀ w, Pipeline.arrRef spec0 w ≠ b) : Wend m c (Proc.devRef .tc b) = V m c b := by
  refine (StableHlo.after_of_forall_not_mem (b := Proc.devRef .tc b) _ _ (List.forall_iff_forall_mem.mp (by
    simp only [hostOps1, List.flatten_cons, List.flatten_nil, List.append_nil, List.Forall, StableHlo.reshape_writes,
      Finset.mem_singleton]
    exact StableHlo.devRef_ne_of_ne h36))).trans ?_
  refine (Pipeline.withArrays_of_ne spec0 c _ _ b hw).trans ?_
  exact Pipeline.withR_of_not_mem _ _ _ _ b (by simpa [R0] using h35)

/-- The written array under the result's shape. -/
def resultOf (c : Dev nD) : S1024x200x128.Idx → Elt F .f32 :=
  shapeCast S1024x200x128 (outArr m c : S204800x128.Idx → Elt F .f32) shapeCasts_S204800x128_S1024x200x128

/-- The result is the written array, reshaped. -/
theorem Wend_result (c : Dev nD) : Wend m c (Proc.devRef .tc main_v36) = resultOf m c := by
  have h : Pipeline.withArrays spec0 c (Pipeline.withR (V0 m c) R0 c (Vend m c)) (fun w => (dats m 0 c).arrAt w cfg0.N)
      (Proc.devRef .tc main_v35) = outArr m c := by
    refine (Pipeline.withArrays_of_ne spec0 c _ _ main_v35 (by decide)).trans ?_
    refine (Pipeline.withR_of_mem _ _ _ _ main_v35 (by simp [R0])).trans ?_
    exact Function.update_self ..
  refine Eq.trans ?_ (congrArg (fun x : S204800x128.Idx → Elt F .f32 =>
    shapeCast S1024x200x128 x shapeCasts_S204800x128_S1024x200x128) h)
  show StableHlo.after [hostOps1].flatten _ _ = _
  simp only [hostOps1, List.flatten_cons, List.flatten_nil, List.append_nil]
  after_results_simp <;> rfl

/-- The whole run, read at the arguments, the result and the counters. -/
theorem run_end : θ_run defs (onTc (τ := τ) (main (F := F))) (s₀ m ρ) (fun r =>
    (∀ c : Dev nD, r.2.mem ((c.tc : Thread nD τ).loc main_v36) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) := by
  refine (θ_run defs _ _).mono (fun r h => ?_) (run_main m ρ)
  refine ⟨fun c => ?_, h.2⟩
  have hr := (h.1 c).2
  refine ⟨(hr main_v36 (Pipeline.mem_restRefs_of main_v36 (by decide) (by decide))).trans (Wend_result m c), ?_, ?_, ?_, ?_⟩
  · exact (hr main_arg0 (Pipeline.mem_restRefs_of main_arg0 (by decide) (by decide))).trans
      ((Wend_other m c main_arg0 (by decide) (by decide) (by decide)).trans (V_main_arg0 m c))
  · exact (hr main_arg1 (Pipeline.mem_restRefs_of main_arg1 (by decide) (by decide))).trans
      ((Wend_other m c main_arg1 (by decide) (by decide) (by decide)).trans (V_main_arg1 m c))
  · exact (hr main_arg2 (Pipeline.mem_restRefs_of main_arg2 (by decide) (by decide))).trans
      ((Wend_other m c main_arg2 (by decide) (by decide) (by decide)).trans (V_main_arg2 m c))
  · exact (hr main_arg3 (Pipeline.mem_restRefs_of main_arg3 (by decide) (by decide))).trans
      ((Wend_other m c main_arg3 (by decide) (by decide) (by decide)).trans (V_main_arg3 m c))

end Cert.KernelIdeal.Hand
-- ==== Proof.Value.Entry.lean ====
/-
  What the region's operands hold when it begins: the padded tables, the repeated offsets and the two reshaped arguments,
  as the terms the host's line computes.
-/
module

public import proofs.«01_k».proof.Proof.KernelIdeal.Run
public import Idealize.ShloMosaic.PureOps.Ideal.Laws
public import Idealize.ShloMosaic.Lib.StableHlo.RunRead
public import Idealize.ShloMosaic.Lib.Claim

@[expose] public section

noncomputable section

namespace Cert.Hand

open Cert.KernelIdeal Cert.KernelIdeal.Gen Cert.KernelIdeal.Hand
open Idealize.ShloMosaic Idealize.ShloMosaic.TcCoe Idealize.ShloMosaic.Tactic Idealize.ShloMosaic.ValueIdx

variable (m : (ℓ : Loc nD τ sig) → Buf (Elt Ideal) ℓ) (c : Dev nD)

/-- The four arguments, as arrays. -/
def a0 : S1024x200.Idx → Elt Ideal .i32 := m ((c.tc : Thread nD τ).loc main_arg0)
def a1 : S1024x200x109.Idx → Elt Ideal .f32 := m ((c.tc : Thread nD τ).loc main_arg1)
def a2 : S27x120.Idx → Elt Ideal .f32 := m ((c.tc : Thread nD τ).loc main_arg2)
def a3 : S2x103.Idx → Elt Ideal .f32 := m ((c.tc : Thread nD τ).loc main_arg3)

/-- An index word vector of six, negative words wrapped by `n`. -/
def wrap6 (x : IVec S6 32) (n : BitVec 32) : IVec S6 32 :=
  select (cmpi .slt x (broadcastInDim S6 ![] bcast_S_S6 (constantI S_ 32 0#32))) (addi x (broadcastInDim S6 ![] bcast_S_S6 (constantI S_ 32 n))) x

/-- The six cells: row `k`, column `120 + k`. -/
def idxDiag : IVec S6x2 32 :=
  concatenate S6x2 1 [⟨S6x1, broadcastInDim S6x1 ![0] bcast_S6_S6x1_0 (wrap6 (iotaInDim S6 32 0) 109#32)⟩,
    ⟨S6x1, broadcastInDim S6x1 ![0] bcast_S6_S6x1_0
      (wrap6 (addi (broadcastInDim S6 ![] bcast_S_S6 (constantI S_ 32 120#32)) (iotaInDim S6 32 0)) 128#32)⟩] concatenates_S6x1_S6x1_S6x2_d1

/-- A pair of offsets, as two index words. -/
def pairOf (p q : BitVec 32) : IVec S2 32 :=
  concatenate S2 0 [⟨S1, broadcastInDim S1 ![] bcast_S_S1 (constantI S_ 32 p)⟩, ⟨S1, broadcastInDim S1 ![] bcast_S_S1 (constantI S_ 32 q)⟩]
    concatenates_S1_S1_S2_d0

/-- The weights' table before the transposed weights are set into it: ones at the six cells. -/
def wDiag : S109x128.Idx → Elt Ideal .f32 :=
  Host.scatter scatter_S109x128_S6x2_S6_n_01_01_1 (fun _ b => b)
    (broadcastInDim S109x128 ![] bcast_S_S109x128 (constant (F := Ideal) S_ .f32 0x00000000#32)) idxDiag
    (broadcastInDim S6 ![] bcast_S_S6 (constant (F := Ideal) S_ .f32 0x3F800000#32))

theorem V_v33 : (V m c main_v33 : S204800x109.Idx → Elt Ideal .f32) = shapeCast S204800x109 (a1 m c) shapeCasts_S1024x200x109_S204800x109 := by
  unfold_abbrev_sides
  after_reads_simp <;> rfl

theorem V_v34 : (V m c main_v34 : S64x8x400.Idx → Elt Ideal .i32) = shapeCast S64x8x400 (a0 m c) shapeCasts_S1024x200_S64x8x400 := by
  unfold_abbrev_sides
  after_reads_simp <;> rfl

theorem V_v32 : (V m c main_v32 : S3200x128.Idx → Elt Ideal .f32) =
    shapeCast S3200x128 (broadcastInDim S16x200x1x128 ![0, 1, 2, 3] bcast_S1x200x1x128_S16x200x1x128_0_1_2_3
      (shapeCast S1x200x1x128 (fun i : S200x128.Idx => FloatOps.ofBits (F := Ideal) .f32 (lit0 (S200x128.rowMajor i))) shapeCasts_S200x128_S1x200x1x128))
      shapeCasts_S16x200x1x128_S3200x128 := by
  unfold_abbrev_sides
  after_reads_simp <;> rfl

theorem V_v29 : (V m c main_v29 : S32x128.Idx → Elt Ideal .f32) =
    Host.scatter scatter_S32x128_S2_S27x120_01_n_01_0 (fun _ b => b)
      (broadcastInDim S32x128 ![] bcast_S_S32x128 (constant (F := Ideal) S_ .f32 0x00000000#32)) (pairOf 0#32 0#32) (a2 m c) := by
  unfold_abbrev_sides
  after_reads_simp <;> rfl

theorem V_v24 : (V m c main_v24 : S109x128.Idx → Elt Ideal .f32) =
    Host.scatter scatter_S109x128_S2_S103x2_01_n_01_0 (fun _ b => b) wDiag (pairOf 6#32 126#32)
      (transpose S103x2 [1, 0] (a3 m c) transposes_S2x103_S103x2_1_0) := by
  unfold_abbrev_sides
  after_reads_simp <;> rfl

end Cert.Hand
-- ==== Proof.Value.Scatter.lean ====
/-
  The three writes by which the padded tables are built, each read at an entry: a block set at a pair of offsets, and six
  single cells set at six pairs.
-/
module

public import proofs.«01_k».proof.Proof.Gen.KernelIdeal
public import Idealize.ShloMosaic.Lib.Routing.OpsSet
public import Idealize.ShloMosaic.Lib.Routing.OpsOne

@[expose] public section

noncomputable section

namespace Cert.Hand

open Cert.KernelIdeal Cert.KernelIdeal.Gen
open Idealize.ShloMosaic Idealize.ShloMosaic.ValueIdx Idealize.ShloMosaic.Routing

/-- A block of `A × B` entries set into an `R × C` table at the offsets `p, q` that two index words name: inside the block
    the block's entry, elsewhere the table's. What the record must satisfy is that its windows run along both axes. -/
theorem scatter_block {α : Type} {R C A B : Nat} (d : ScatterDims ⟨2, ![R, C]⟩ ⟨1, ![2]⟩ ⟨2, ![A, B]⟩)
    (hsd : d.scatterDimsToOperandDims = [0, 1]) (hivd : d.indexVectorDim = 0)
    (hw : ∀ (k : (⟨2, ![A, B]⟩ : Shape).Idx) , d.window k 0 = (k 0).val ∧ d.window k 1 = (k 1).val)
    (x0 : (⟨2, ![R, C]⟩ : Shape).Idx → α) (idx : IVec ⟨1, ![2]⟩ 32) (upd : (⟨2, ![A, B]⟩ : Shape).Idx → α) (p q : Nat)
    (hp : (idx (ix1 (0 : Fin 2))).toInt = p) (hq : (idx (ix1 (1 : Fin 2))).toInt = q) (r : Fin R) (c : Fin C) :
    (∀ (a : Fin A) (b : Fin B), r.val = p + a.val → c.val = q + b.val →
        Host.scatter d (fun _ b => b) x0 idx upd (ix2 r c) = upd (ix2 a b))
      ∧ ((r.val < p ∨ p + A ≤ r.val ∨ c.val < q ∨ q + B ≤ c.val) →
        Host.scatter d (fun _ b => b) x0 idx upd (ix2 r c) = x0 (ix2 r c)) := by
  have lands : ∀ k : (⟨2, ![A, B]⟩ : Shape).Idx, d.resultIdx? k idx = some (ix2 r c) ↔
      p + (k 0).val = r.val ∧ q + (k 1).val = c.val := fun k => by
    rw [resultIdx?_ix2, start_pair d hsd hivd, start_pair d hsd hivd, (hw k).1, (hw k).2, hp, hq]
    omega
  constructor
  · intro a b ha hb
    refine scatter_set_hit d x0 idx upd _ _ (fun k hk => ?_) (ix2 a b) ((lands _).2 ⟨ha.symm, hb.symm⟩)
    obtain ⟨h0, h1⟩ := (lands k).1 hk
    rw [eq_ix2 k]
    congr 2
    · exact Fin.ext (by omega)
    · exact Fin.ext (by omega)
  · intro h
    refine scatter_set_miss d x0 idx upd _ fun k hk => ?_
    obtain ⟨h0, h1⟩ := (lands k).1 hk
    have hA : (k 0).val < A := (k 0).isLt
    have hB : (k 1).val < B := (k 1).isLt
    omega

/-- The windows of the block write into the weights' table run along both axes. -/
theorem window_w (k : S103x2.Idx) : scatter_S109x128_S2_S103x2_01_n_01_0.window k 0 = (k 0).val
    ∧ scatter_S109x128_S2_S103x2_01_n_01_0.window k 1 = (k 1).val := ⟨rfl, rfl⟩

/-- So do those of the block write into the embedding's table. -/
theorem window_e (k : S27x120.Idx) : scatter_S32x128_S2_S27x120_01_n_01_0.window k 0 = (k 0).val
    ∧ scatter_S32x128_S2_S27x120_01_n_01_0.window k 1 = (k 1).val := ⟨rfl, rfl⟩

/-- Six cells set to one value, the `k`-th at row `k` and column `120 + k`: that value there, elsewhere the table's. -/
theorem scatter_diag {α : Type} (x0 : S109x128.Idx → α) (idx : IVec S6x2 32) (upd : S6.Idx → α) (v : α)
    (h0 : ∀ k : Fin 6, (idx (ix2 k (0 : Fin 2))).toInt = (k.val : Int)) (h1 : ∀ k : Fin 6, (idx (ix2 k (1 : Fin 2))).toInt = ((120 + k.val : Nat) : Int))
    (hv : ∀ k, upd k = v) (r : Fin 109) (c : Fin 128) :
    Host.scatter scatter_S109x128_S6x2_S6_n_01_01_1 (fun _ b => b) x0 idx upd (ix2 r c)
      = if r.val < 6 ∧ c.val = 120 + r.val then v else x0 (ix2 r c) := by
  have hs : ∀ (k : S6.Idx) (q : Fin 2), scatter_S109x128_S6x2_S6_n_01_01_1.start k idx q = (idx (ix2 (k 0 : Fin 6) q)).toInt := by
    intro k q
    match q with
    | 0 =>
      unfold ScatterDims.start
      rw [dif_pos (by decide)]
      congr 2
      funext a
      match a with
      | ⟨0, _⟩ => rfl
      | ⟨1, _⟩ => rfl
    | 1 =>
      unfold ScatterDims.start
      rw [dif_pos (by decide)]
      congr 2
      funext a
      match a with
      | ⟨0, _⟩ => rfl
      | ⟨1, _⟩ => rfl
  have lands : ∀ k : S6.Idx, scatter_S109x128_S6x2_S6_n_01_01_1.resultIdx? k idx = some (ix2 r c) ↔
      (k 0).val = r.val ∧ 120 + (k 0).val = c.val := fun k => by
    have w0 : scatter_S109x128_S6x2_S6_n_01_01_1.window k 0 = 0 := rfl
    have w1 : scatter_S109x128_S6x2_S6_n_01_01_1.window k 1 = 0 := rfl
    rw [resultIdx?_ix2, hs, hs, w0, w1, h0 (k 0), h1 (k 0)]
    omega
  by_cases h : r.val < 6 ∧ c.val = 120 + r.val
  · rw [if_pos h]
    exact scatter_set_hit _ x0 idx upd _ v (fun k _ => hv k) (ix1 ⟨r.val, h.1⟩) ((lands _).2 ⟨rfl, h.2.symm⟩)
  · rw [if_neg h]
    refine scatter_set_miss _ x0 idx upd _ fun k hk => h ?_
    obtain ⟨e0, e1⟩ := (lands k).1 hk
    have hk6 : (k 0).val < 6 := (k 0).isLt
    omega

end Cert.Hand
-- ==== Proof.Value.Operands.lean ====
/-
  The operands of the chunks, read at an entry, in terms of the four arguments.
-/
module

public import proofs.«01_k».proof.Proof.Value.Entry
public import proofs.«01_k».proof.Proof.Value.Scatter
public import Idealize.ShloMosaic.Lib.Pipeline.Value

@[expose] public section

noncomputable section

namespace Cert.Hand

open Cert.KernelIdeal Cert.KernelIdeal.Gen Cert.KernelIdeal.Hand
open Idealize.ShloMosaic Idealize.ShloMosaic.TcCoe Idealize.ShloMosaic.Tactic Idealize.ShloMosaic.ValueIdx

variable (m : (ℓ : Loc nD τ sig) → Buf (Elt Ideal) ℓ) (c : Dev nD)

/-! ## The index words -/

/-- The pair's words. -/
theorem pairOf_0 (p q : BitVec 32) : pairOf p q (ix1 (0 : Fin 2)) = p := by
  unfold pairOf
  refine (concatenate_pair_apply_left (s₁ := S1) (s₂ := S1) (t := S2) (0 : Fin 1) _ _ _ (ix1 (0 : Fin 2)) rfl (ix1 (0 : Fin 1)) ?_).trans ?_
  · exact fun b => match b with | ⟨0, _⟩ => rfl
  · rfl
theorem pairOf_1 (p q : BitVec 32) : pairOf p q (ix1 (1 : Fin 2)) = q := by
  unfold pairOf
  refine (concatenate_pair_apply_right (s₁ := S1) (s₂ := S1) (t := S2) (0 : Fin 1) _ _ _ (ix1 (1 : Fin 2)) rfl rfl (ix1 (0 : Fin 1)) ?_ ?_).trans ?_
  · exact fun b => match b with | ⟨0, _⟩ => fun h => (h rfl).elim
  · rfl
  · rfl

/-- The six cells' rows. -/
theorem idxDiag_0 (k : Fin 6) : (idxDiag (ix2 k (0 : Fin 2))).toInt = (k.val : Int) := by
  have e : idxDiag (ix2 k (0 : Fin 2)) = wrap6 (iotaInDim S6 32 0) 109#32 (ix1 k) := by
    unfold idxDiag
    refine (concatenate_pair_apply_left (s₁ := S6x1) (s₂ := S6x1) (t := S6x2) (1 : Fin 2) _ _ _ (ix2 k (0 : Fin 2)) rfl (ix2 k (0 : Fin 1)) ?_).trans ?_
    · exact fun b => match b with | ⟨0, _⟩ => rfl | ⟨1, _⟩ => rfl
    · refine broadcastInDim_apply _ _ _ _ (ix1 k) ?_
      exact fun a => match a with | ⟨0, _⟩ => rfl
  rw [e]
  revert k
  decide

/-- And their columns. -/
theorem idxDiag_1 (k : Fin 6) : (idxDiag (ix2 k (1 : Fin 2))).toInt = ((120 + k.val : Nat) : Int) := by
  have e : idxDiag (ix2 k (1 : Fin 2)) = wrap6 (addi (broadcastInDim S6 ![] bcast_S_S6 (constantI S_ 32 120#32)) (iotaInDim S6 32 0)) 128#32 (ix1 k) := by
    unfold idxDiag
    refine (concatenate_pair_apply_right (s₁ := S6x1) (s₂ := S6x1) (t := S6x2) (1 : Fin 2) _ _ _ (ix2 k (1 : Fin 2)) rfl rfl (ix2 k (0 : Fin 1)) ?_ ?_).trans ?_
    · exact fun b => match b with | ⟨0, _⟩ => fun _ => rfl | ⟨1, _⟩ => fun h => (h rfl).elim
    · rfl
    · refine broadcastInDim_apply _ _ _ _ (ix1 k) ?_
      exact fun a => match a with | ⟨0, _⟩ => rfl
  rw [e]
  revert k
  decide

/-! ## The two tables -/

/-- The word of one. -/
theorem ofBits_one : FloatOps.ofBits (F := Ideal) .f32 0x3F800000#32 = (1 : EReal) := by
  show Ideal.ofBits .f32 0x3F800000#32 = 1
  simp [Ideal.ofBits, Ideal.ieee]
  rw [← EReal.coe_mul]
  norm_num

/-- The embedding's table at an entry. -/
theorem tableE (v : Fin 32) (o : Fin 128) : (V m c main_v29 : S32x128.Idx → EReal) (ix2 v o)
    = if h : v.val < 27 ∧ o.val < 120 then a2 m c (ix2 ⟨v.val, h.1⟩ ⟨o.val, h.2⟩) else 0 := by
  have e := congrFun (V_v29 m c) (ix2 v o)
  refine e.trans ?_
  have sc := scatter_block scatter_S32x128_S2_S27x120_01_n_01_0 rfl rfl window_e
    (broadcastInDim S32x128 ![] bcast_S_S32x128 (constant (F := Ideal) S_ .f32 0x00000000#32)) (pairOf 0#32 0#32) (a2 m c) 0 0
    (by rw [pairOf_0]; rfl) (by rw [pairOf_1]; rfl) v o
  by_cases h : v.val < 27 ∧ o.val < 120
  · rw [dif_pos h]
    exact sc.1 ⟨v.val, h.1⟩ ⟨o.val, h.2⟩ (by simp) (by simp)
  · rw [dif_neg h]
    exact (sc.2 (by omega)).trans Ideal.ofBits_zero_f32

/-- The weights' table at an entry. -/
theorem tableW (k : Fin 109) (o : Fin 128) : (V m c main_v24 : S109x128.Idx → EReal) (ix2 k o)
    = if h : 6 ≤ k.val ∧ 126 ≤ o.val then a3 m c (ix2 ⟨o.val - 126, by omega⟩ ⟨k.val - 6, by omega⟩)
      else if k.val < 6 ∧ o.val = 120 + k.val then 1 else 0 := by
  have e := congrFun (V_v24 m c) (ix2 k o)
  refine e.trans ?_
  have sc := scatter_block scatter_S109x128_S2_S103x2_01_n_01_0 rfl rfl window_w wDiag (pairOf 6#32 126#32)
    (transpose S103x2 [1, 0] (a3 m c) transposes_S2x103_S103x2_1_0) 6 126
    (by rw [pairOf_0]; rfl) (by rw [pairOf_1]; rfl) k o
  by_cases h : 6 ≤ k.val ∧ 126 ≤ o.val
  · rw [dif_pos h]
    refine (sc.1 ⟨k.val - 6, by omega⟩ ⟨o.val - 126, by omega⟩ (by show k.val = 6 + (k.val - 6); omega) (by show o.val = 126 + (o.val - 126); omega)).trans ?_
    exact transpose_apply _ _ _ _ _ (fun b => match b with | ⟨0, _⟩ => rfl | ⟨1, _⟩ => rfl)
  · rw [dif_neg h]
    refine (sc.2 (by omega)).trans ?_
    refine (scatter_diag _ idxDiag _ (1 : EReal) idxDiag_0 idxDiag_1 (fun _ => ofBits_one) k o).trans ?_
    congr 1
    exact Ideal.ofBits_zero_f32

/-! ## The offsets and the reshaped arguments -/

/-- The offsets repeat every 200 rows. -/
theorem offs (r : Fin 3200) (o : Fin 128) : (V m c main_v32 : S3200x128.Idx → EReal) (ix2 r o)
    = Ideal.ofBits .f32 (lit0t (r.val % 200 * 128 + o.val)) := by
  refine (congrFun (V_v32 m c) (ix2 r o)).trans ?_
  rw [shapeCast_apply _ _ _ (ix4 (⟨r.val / 200, by omega⟩ : Fin 16) (⟨r.val % 200, by omega⟩ : Fin 200) (0 : Fin 1) o) (by
    rw [Shape.rowMajor_val_four, Shape.rowMajor_val_two]
    show ((r.val / 200 * 200 + r.val % 200) * 1 + 0) * 128 + o.val = r.val * 128 + o.val
    omega)]
  rw [broadcastInDim_apply _ _ _ _ (ix4 (0 : Fin 1) (⟨r.val % 200, by omega⟩ : Fin 200) (0 : Fin 1) o)
    (fun a => match a with | ⟨0, _⟩ => rfl | ⟨1, _⟩ => rfl | ⟨2, _⟩ => rfl | ⟨3, _⟩ => rfl)]
  rw [shapeCast_apply _ _ _ (ix2 (⟨r.val % 200, by omega⟩ : Fin 200) o) (by
    rw [Shape.rowMajor_val_four, Shape.rowMajor_val_two]
    show r.val % 200 * 128 + o.val = ((0 * 200 + r.val % 200) * 1 + 0) * 128 + o.val
    omega)]
  show Ideal.ofBits .f32 (lit0t (S200x128.rowMajor (ix2 (⟨r.val % 200, by omega⟩ : Fin 200) o)).val) = _
  rw [Shape.rowMajor_val_two]
  rfl

/-- Row `b * 200 + s` of the features. -/
theorem feats (b : Fin 1024) (s : Fin 200) (k : Fin 109) (R : Fin 204800) (h : R.val = b.val * 200 + s.val) :
    (V m c main_v33 : S204800x109.Idx → EReal) (ix2 R k) = a1 m c (ix3 b s k) := by
  refine (congrFun (V_v33 m c) (ix2 R k)).trans ?_
  exact shapeCast_apply _ _ _ _ (by
    rw [Shape.rowMajor_val_three, Shape.rowMajor_val_two]
    show (b.val * 200 + s.val) * 109 + k.val = R.val * 109 + k.val
    rw [h])

/-- The word of row `b * 200 + s`. -/
theorem words (b : Fin 1024) (s : Fin 200) (i : Fin 64) (p : Fin 8) (q : Fin 400) (h : (i.val * 8 + p.val) * 400 + q.val = b.val * 200 + s.val) :
    (V m c main_v34 : S64x8x400.Idx → BitVec 32) (ix3 i p q) = a0 m c (ix2 b s) := by
  refine (congrFun (V_v34 m c) (ix3 i p q)).trans ?_
  exact shapeCast_apply _ _ _ _ (by
    rw [Shape.rowMajor_val_three, Shape.rowMajor_val_two]
    show b.val * 200 + s.val = (i.val * 8 + p.val) * 400 + q.val
    rw [h])

/-! ## What the region's windows stage -/

theorem stage0 (y : S32x128.Idx) : (iblk m c 0 t₀ : S32x128.Idx → EReal) y = (V m c main_v29 : S32x128.Idx → EReal) y := by
  show (V m c main_v29 : S32x128.Idx → EReal) (((cfg0.win 0).blk t₀).view.emb y) = _
  congr 1
  funext a
  match a with
  | ⟨0, _⟩ => exact Fin.ext (by show 0 * 32 + 1 * (y 0).val = (y 0).val; omega)
  | ⟨1, _⟩ => exact Fin.ext (by show 0 * 128 + 1 * (y 1).val = (y 1).val; omega)

theorem stage1 (y : S109x128.Idx) : (iblk m c 1 t₀ : S109x128.Idx → EReal) y = (V m c main_v24 : S109x128.Idx → EReal) y := by
  show (V m c main_v24 : S109x128.Idx → EReal) (((cfg0.win 1).blk t₀).view.emb y) = _
  congr 1
  funext a
  match a with
  | ⟨0, _⟩ => exact Fin.ext (by show 0 * 109 + 1 * (y 0).val = (y 0).val; omega)
  | ⟨1, _⟩ => exact Fin.ext (by show 0 * 128 + 1 * (y 1).val = (y 1).val; omega)

theorem stage2 (y : S3200x128.Idx) : (iblk m c 2 t₀ : S3200x128.Idx → EReal) y = (V m c main_v32 : S3200x128.Idx → EReal) y := by
  show (V m c main_v32 : S3200x128.Idx → EReal) (((cfg0.win 2).blk t₀).view.emb y) = _
  congr 1
  funext a
  match a with
  | ⟨0, _⟩ => exact Fin.ext (by show 0 * 3200 + 1 * (y 0).val = (y 0).val; omega)
  | ⟨1, _⟩ => exact Fin.ext (by show 0 * 128 + 1 * (y 1).val = (y 1).val; omega)

end Cert.Hand
-- ==== Proof.Value.Payload.lean ====
/-
  One chunk's arithmetic at an entry: the one-hot product is the sum over the vocabulary of a zero or a one times the
  table's entry, the second product the sum over the features, and the offset is added.
-/
module

public import proofs.«01_k».proof.Proof.KernelIdeal.Pieces
public import Idealize.ShloMosaic.PureOps.Ideal.Laws
public import Idealize.ShloMosaic.Lib.ValueIdx
public import Idealize.ShloMosaic.Lib.Pipeline.Value

@[expose] public section

noncomputable section

namespace Cert.Hand

open Cert.KernelIdeal Cert.KernelIdeal.Gen Cert.KernelIdeal.Hand
open Idealize.ShloMosaic Idealize.ShloMosaic.ValueIdx

/-- The comparison's bit, widened and read as a number: one where the words agree, else zero. -/
theorem hot (x y : BitVec 32) : FloatOps.sitofp (F := Ideal) .f32 ((IntOp.cmpi .eq x y).setWidth 32) = if x = y then (1 : EReal) else 0 := by
  by_cases h : x = y
  · rw [if_pos h]
    have e : IntOp.cmpi .eq x y = 1#1 := by subst h; simp [IntOp.cmpi]
    rw [e]
    show (((((1#1).setWidth 32 : BitVec 32).toInt : ℝ)) : EReal) = 1
    have : ((1#1).setWidth 32 : BitVec 32).toInt = 1 := by decide
    rw [this]; norm_num
  · rw [if_neg h]
    have e : IntOp.cmpi .eq x y = 0#1 := by
      have hb : (x == y) = false := beq_eq_false_iff_ne.mpr h
      simp [IntOp.cmpi, hb]
    rw [e]
    show (((((0#1).setWidth 32 : BitVec 32).toInt : ℝ)) : EReal) = 0
    have : ((0#1).setWidth 32 : BitVec 32).toInt = 0 := by decide
    rw [this]; norm_num

/-- A block under its leading unit axis, read there. -/
theorem boxed_apply {n : ℕ} {d : Fin n → ℕ} {e : EltTy} (hq : (⟨n, d⟩ : Shape).numel = (⟨n + 1, Matrix.vecCons 1 d⟩ : Shape).numel)
    (g : (⟨n, d⟩ : Shape).Idx → Elt Ideal e) (x : (⟨n, d⟩ : Shape).Idx) :
    boxed (F := Ideal) hq g (Shape.reshapeEquiv hq x) = g x := by
  unfold boxed
  rw [Equiv.symm_apply_apply]

/-- The product with the one-hot rows, at an entry. -/
theorem dot_hot (l : FVec Ideal S3200x32 .f32) (e : FVec Ideal S32x128 .f32) (r : Fin 3200) (o : Fin 128) :
    matmul dot_S3200x32_S32x128_S3200x128_1_0_0_1_n_n none l e (constant S3200x128 .f32 0x00000000#32) (ix2 r o)
      = ∑ v : Fin 32, l (ix2 r v) * e (ix2 v o) := by
  simp only [matmul]
  rw [Ideal.matmul_constant_zero_apply]
  rw [← Equiv.sum_comp (contrEquiv1 dot_S3200x32_S32x128_S3200x128_1_0_0_1_n_n 32 rfl rfl).symm]
  refine Finset.sum_congr rfl fun v _ => ?_
  congr 2
  · funext a
    match a with
    | ⟨0, _⟩ => rfl
    | ⟨1, _⟩ => rfl
  · funext a
    match a with
    | ⟨0, _⟩ => rfl
    | ⟨1, _⟩ => rfl

/-- The product with the features, at an entry. -/
theorem dot_feat (l : FVec Ideal S3200x109 .f32) (e : FVec Ideal S109x128 .f32) (r : Fin 3200) (o : Fin 128) :
    matmul dot_S3200x109_S109x128_S3200x128_1_0_0_1_n_n none l e (constant S3200x128 .f32 0x00000000#32) (ix2 r o)
      = ∑ v : Fin 109, l (ix2 r v) * e (ix2 v o) := by
  simp only [matmul]
  rw [Ideal.matmul_constant_zero_apply]
  rw [← Equiv.sum_comp (contrEquiv1 dot_S3200x109_S109x128_S3200x128_1_0_0_1_n_n 109 rfl rfl).symm]
  refine Finset.sum_congr rfl fun v _ => ?_
  congr 2
  · funext a
    match a with
    | ⟨0, _⟩ => rfl
    | ⟨1, _⟩ => rfl
  · funext a
    match a with
    | ⟨0, _⟩ => rfl
    | ⟨1, _⟩ => rfl

/-- A chunk's result at row `r`, column `o`. -/
theorem pay_apply (gi : S8x400.Idx → Elt Ideal .i32) (e : Vec Ideal S32x128 .f32) (gm : S3200x109.Idx → Elt Ideal .f32)
    (w : Vec Ideal S109x128 .f32) (p : Vec Ideal S3200x128 .f32) (r : Fin 3200) (o : Fin 128) :
    k0_pay6 (F := Ideal) (boxed squeezes_S1x8x400_S8x400.numel_eq gi) e (boxed squeezes_S1x3200x109_S3200x109.numel_eq gm) w p
        (Shape.reshapeEquiv squeezes_S1x3200x128_S3200x128.numel_eq (ix2 r o))
      = ((∑ v : Fin 32, (if gi (ix2 (⟨r.val / 400, by omega⟩ : Fin 8) (⟨r.val % 400, by omega⟩ : Fin 400)) = BitVec.ofNat 32 v.val then (1 : EReal) else 0) * e (ix2 v o))
          + ∑ k : Fin 109, gm (ix2 r k) * w (ix2 k o)) + p (ix2 r o) := by
  unfold k0_pay6
  dsimp only
  rw [shapeCast_apply _ shapeCasts_S3200x128_S1x3200x128 _ (ix2 r o) (Shape.rowMajor_reshapeEquiv _ _).symm]
  rw [addf_apply, addf_apply, dot_hot, dot_feat]
  congr 2
  · refine Finset.sum_congr rfl fun v _ => ?_
    rw [shapeCast_self]
    congr 1
    rw [shapeCast_apply _ shapeCasts_S8x400x32_S3200x32 _ (ix3 (⟨r.val / 400, by omega⟩ : Fin 8) (⟨r.val % 400, by omega⟩ : Fin 400) v) (by
      rw [Shape.rowMajor_val_three, Shape.rowMajor_val_two]
      show (r.val / 400 * 400 + r.val % 400) * 32 + v.val = r.val * 32 + v.val
      omega)]
    rw [sitofp_apply, extui_apply]
    refine (hot _ _).trans ?_
    rw [iota_single_apply]
    rw [broadcastTo_apply _ broadcasts_S8x400x1_S8x400x32 _ (ix3 (⟨r.val / 400, by omega⟩ : Fin 8) (⟨r.val % 400, by omega⟩ : Fin 400) (0 : Fin 1))
      (fun a => match a with | ⟨0, _⟩ => rfl | ⟨1, _⟩ => rfl | ⟨2, _⟩ => rfl)]
    rw [shapeCast_apply _ shapeCasts_S8x400_S8x400x1 _ (ix2 (⟨r.val / 400, by omega⟩ : Fin 8) (⟨r.val % 400, by omega⟩ : Fin 400)) (by
      rw [Shape.rowMajor_val_three, Shape.rowMajor_val_two]
      show r.val / 400 * 400 + r.val % 400 = (r.val / 400 * 400 + r.val % 400) * 1 + 0
      omega)]
    rw [shapeCast_apply _ shapeCasts_S1x8x400_S8x400 _ (Shape.reshapeEquiv squeezes_S1x8x400_S8x400.numel_eq
      (ix2 (⟨r.val / 400, by omega⟩ : Fin 8) (⟨r.val % 400, by omega⟩ : Fin 400))) (Shape.rowMajor_reshapeEquiv _ _)]
    rw [boxed_apply]
  · refine Finset.sum_congr rfl fun k _ => ?_
    rw [shapeCast_self]
    congr 1
    rw [shapeCast_apply _ shapeCasts_S1x3200x109_S3200x109 _ (Shape.reshapeEquiv squeezes_S1x3200x109_S3200x109.numel_eq (ix2 r k)) (Shape.rowMajor_reshapeEquiv _ _)]
    rw [boxed_apply]

end Cert.Hand
-- ==== Proof.Value.Spec.lean ====
/-
  The result in plain mathematics: what both programs compute, entry by entry, from the four arguments and a table of
  offsets.
-/
module

public import Idealize.ShloMosaic.PureOps.Ideal.Laws
public import Idealize.ShloMosaic.Lib.ValueIdx

@[expose] public section

noncomputable section

namespace Cert.Hand

open Idealize.ShloMosaic Idealize.ShloMosaic.ValueIdx

/-- The result at sequence `b`, position `s`, column `o`: 120 columns of the residue's embedding, six features copied,
    two learned combinations of the other 103 features, and the position's offset added. -/
def spec (x0 : (⟨2, ![1024, 200]⟩ : Shape).Idx → BitVec 32) (x1 : (⟨3, ![1024, 200, 109]⟩ : Shape).Idx → EReal)
    (x2 : (⟨2, ![27, 120]⟩ : Shape).Idx → EReal) (x3 : (⟨2, ![2, 103]⟩ : Shape).Idx → EReal) (tbl : Nat → BitVec 32)
    (b : Fin 1024) (s : Fin 200) (o : Fin 128) : EReal :=
  (if h : o.val < 120 then
      if hv : (x0 (ix2 b s)).toNat < 27 then x2 (ix2 ⟨(x0 (ix2 b s)).toNat, hv⟩ ⟨o.val, h⟩) else 0
    else if h' : o.val < 126 then x1 (ix3 b s ⟨o.val - 120, by omega⟩)
    else ∑ k : Fin 103, x1 (ix3 b s ⟨6 + k.val, by omega⟩) * x3 (ix2 ⟨o.val - 126, by omega⟩ k))
  + Ideal.ofBits .f32 (tbl (s.val * 128 + o.val))

/-- A family of entries of the whole result. -/
def flat (f : Fin 1024 → Fin 200 → Fin 128 → EReal) : (⟨3, ![1024, 200, 128]⟩ : Shape).Idx → EReal :=
  fun j => f (j 0) (j 1) (j 2)

theorem eq_flat (f : Fin 1024 → Fin 200 → Fin 128 → EReal) (x : (⟨3, ![1024, 200, 128]⟩ : Shape).Idx → EReal)
    (h : ∀ b s o, x (ix3 b s o) = f b s o) : x = flat f := by
  funext j
  rw [eq_ix3 j]
  exact h _ _ _

end Cert.Hand
-- ==== Proof.Value.Kernel.lean ====
/-
  The kernel's result at an entry: both of a chunk's sums evaluated over the two padded tables.
-/
module

public import proofs.«01_k».proof.Proof.Value.Operands
public import proofs.«01_k».proof.Proof.Value.Payload
public import proofs.«01_k».proof.Proof.Value.Spec
public import proofs.«01_k».proof.Proof.KernelIdeal.Final

@[expose] public section

noncomputable section

namespace Cert.Hand

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (c : Dev nD)

/-- The one-hot product picks the word's row of the padded embedding. -/
theorem sum_hot (g : BitVec 32) (o : Fin 128) :
    (∑ v : Fin 32, (if g = BitVec.ofNat 32 v.val then (1 : EReal) else 0) * (V m c main_v29 : S32x128.Idx → EReal) (ix2 v o))
      = if h : o.val < 120 then if hv : g.toNat < 27 then a2 m c (ix2 ⟨g.toNat, hv⟩ ⟨o.val, h⟩) else 0 else 0 := by
  by_cases h : o.val < 120
  · rw [dif_pos h]
    by_cases hv : g.toNat < 27
    · rw [dif_pos hv, Finset.sum_eq_single (⟨g.toNat, by omega⟩ : Fin 32)]
      · rw [if_pos (by simp), one_mul, tableE, dif_pos ⟨hv, h⟩]
      · intro v _ hne
        rw [if_neg, zero_mul]
        intro e
        refine hne (Fin.ext ?_)
        have := congrArg BitVec.toNat e
        rw [BitVec.toNat_ofNat, Nat.mod_eq_of_lt (by omega)] at this
        exact this.symm
      · exact fun hh => (hh (Finset.mem_univ _)).elim
    · rw [dif_neg hv]
      refine Finset.sum_eq_zero fun v _ => ?_
      by_cases e : g = BitVec.ofNat 32 v.val
      · have := congrArg BitVec.toNat e
        rw [BitVec.toNat_ofNat, Nat.mod_eq_of_lt (by omega)] at this
        rw [tableE, dif_neg (by omega), mul_zero]
      · rw [if_neg e, zero_mul]
  · rw [dif_neg h]
    refine Finset.sum_eq_zero fun v _ => ?_
    rw [tableE, dif_neg (by omega), mul_zero]

/-- The product with the features: nothing in the embedding's columns, a copy in the next six, a combination in the
    last two. -/
theorem sum_feat (f : Fin 109 → EReal) (o : Fin 128) :
    (∑ k : Fin 109, f k * (V m c main_v24 : S109x128.Idx → EReal) (ix2 k o))
      = if h : o.val < 120 then 0 else if h' : o.val < 126 then f ⟨o.val - 120, by omega⟩
        else ∑ k : Fin 103, f ⟨6 + k.val, by omega⟩ * a3 m c (ix2 ⟨o.val - 126, by omega⟩ k) := by
  by_cases h : o.val < 120
  · rw [dif_pos h]
    refine Finset.sum_eq_zero fun k _ => ?_
    rw [tableW, dif_neg (by omega), if_neg (by omega), mul_zero]
  rw [dif_neg h]
  by_cases h' : o.val < 126
  · rw [dif_pos h', Finset.sum_eq_single (⟨o.val - 120, by omega⟩ : Fin 109)]
    · rw [tableW, dif_neg (by omega), if_pos ⟨by show o.val - 120 < 6; omega, by show o.val = 120 + (o.val - 120); omega⟩, mul_one]
    · intro k _ hne
      have : k.val ≠ o.val - 120 := fun e => hne (Fin.ext e)
      rw [tableW, dif_neg (by omega), if_neg (by omega), mul_zero]
    · exact fun hh => (hh (Finset.mem_univ _)).elim
  · rw [dif_neg h']
    refine (Fin.sum_univ_add (a := 6) (b := 103) fun k : Fin (6 + 103) => f k * (V m c main_v24 : S109x128.Idx → EReal) (ix2 k o)).trans ?_
    rw [Finset.sum_eq_zero, zero_add]
    · refine Finset.sum_congr rfl fun k _ => ?_
      have t := tableW m c (⟨6 + k.val, by omega⟩ : Fin 109) o
      rw [dif_pos ⟨by show 6 ≤ 6 + k.val; omega, by omega⟩] at t
      show f ⟨6 + k.val, _⟩ * (V m c main_v24 : S109x128.Idx → EReal) (ix2 (⟨6 + k.val, _⟩ : Fin 109) o) = _
      rw [t]
      have e : (⟨6 + k.val - 6, by omega⟩ : Fin 103) = k := Fin.ext (by show 6 + k.val - 6 = k.val; omega)
      exact congrArg (fun z => f ⟨6 + k.val, by omega⟩ * a3 m c (ix2 ⟨o.val - 126, by omega⟩ z)) e
    · intro k _
      have t := tableW m c (⟨k.val, by omega⟩ : Fin 109) o
      rw [dif_neg (by show ¬ (6 ≤ k.val ∧ _); omega), if_neg (by show ¬ (k.val < 6 ∧ o.val = 120 + k.val); omega)] at t
      show f ⟨k.val, _⟩ * (V m c main_v24 : S109x128.Idx → EReal) (ix2 (⟨k.val, _⟩ : Fin 109) o) = _
      rw [t, mul_zero]

/-- A chunk's words. -/
theorem idx_read {i : ℕ} (h : i < 64) (f : S64x8x400.Idx → BitVec 32) (p : Fin 8) (q : Fin 400) :
    (idxBlk (Memref.whole main_v34) h).view.read (Elt Ideal) f (ix2 p q) = f (ix3 ⟨i, h⟩ p q) := by
  refine (congrFun (Memref.read_squeeze_slice (Val := Elt Ideal) (Memref.whole main_v34) _ _ _ (show S1x8x400.ShapeCasts S8x400 by decide) f) (ix2 p q)).trans ?_
  refine (shapeCast_apply _ _ _ (ix3 (0 : Fin 1) p q) (by
    rw [Shape.rowMajor_val_three, Shape.rowMajor_val_two]
    show (0 * 8 + p.val) * 400 + q.val = p.val * 400 + q.val
    omega)).trans ?_
  refine congrArg f (funext fun a => ?_)
  match a with
  | ⟨0, _⟩ => exact Fin.ext (by show i + 1 * 0 = i; omega)
  | ⟨1, _⟩ => exact Fin.ext (by show 0 + 1 * p.val = p.val; omega)
  | ⟨2, _⟩ => exact Fin.ext (by show 0 + 1 * q.val = q.val; omega)

/-- A chunk's features. -/
theorem mod_read {i : ℕ} (h : i < 64) (f : S204800x109.Idx → EReal) (r : Fin 3200) (k : Fin 109) :
    (modBlk (Memref.whole main_v33) h).view.read (Elt Ideal) f (ix2 r k) = f (ix2 ⟨3200 * i + r.val, by omega⟩ k) := by
  refine congrArg f (funext fun a => ?_)
  match a with
  | ⟨0, _⟩ => exact Fin.ext (by show 3200 * i + 1 * r.val = 3200 * i + r.val; omega)
  | ⟨1, _⟩ => exact Fin.ext (by show 0 + 1 * k.val = k.val; omega)

/-- A chunk's rows, over the operands' arrays. -/
theorem rows_apply {i : ℕ} (h : i < 64) (r : Fin 3200) (o : Fin 128) :
    (rowsOf m c h : S3200x128.Idx → EReal) (ix2 r o)
      = ((∑ v : Fin 32, (if (V m c main_v34 : S64x8x400.Idx → BitVec 32) (ix3 ⟨i, h⟩ (⟨r.val / 400, by omega⟩ : Fin 8) (⟨r.val % 400, by omega⟩ : Fin 400)) = BitVec.ofNat 32 v.val then (1 : EReal) else 0)
            * (V m c main_v29 : S32x128.Idx → EReal) (ix2 v o))
          + ∑ k : Fin 109, HMul.hMul (α := EReal) (β := EReal) (γ := EReal) ((V m c main_v33 : S204800x109.Idx → EReal) (ix2 ⟨3200 * i + r.val, by omega⟩ k)) ((V m c main_v24 : S109x128.Idx → EReal) (ix2 k o)))
        + (V m c main_v32 : S3200x128.Idx → EReal) (ix2 r o) :=
  (pay_apply _ _ _ _ _ r o).trans
    (congrArg₂ (fun x y : EReal => x + y)
      (congrArg₂ (fun x y : EReal => x + y)
        (Finset.sum_congr rfl fun v _ => congrArg₂ (fun x y : EReal => x * y) (congrArg (fun g => if g = BitVec.ofNat 32 v.val then (1 : EReal) else 0) (idx_read h _ _ _)) (stage0 m c _))
        (Finset.sum_congr rfl fun k _ => congrArg₂ (fun x y : EReal => x * y) (mod_read h _ r k) (stage1 m c _)))
      (stage2 m c _))

/-- Row `b * 200 + s` of the result's array. -/
theorem out_apply (b : Fin 1024) (s : Fin 200) (o : Fin 128) (R : Fin 204800) (hR : R.val = b.val * 200 + s.val) :
    (outArr m c : S204800x128.Idx → EReal) (ix2 R o) = spec (a0 m c) (a1 m c) (a2 m c) (a3 m c) lit0t b s o := by
  refine (rows_apply m c (by omega : R.val / 3200 < 64) (⟨R.val % 3200, Nat.mod_lt _ (by decide)⟩ : Fin 3200) o).trans ?_
  rw [words m c b s _ _ _ (by show (R.val / 3200 * 8 + R.val % 3200 / 400) * 400 + R.val % 3200 % 400 = _; omega)]
  simp only [feats m c b s _ (⟨3200 * (R.val / 3200) + R.val % 3200, by omega⟩ : Fin 204800) (by show 3200 * (R.val / 3200) + R.val % 3200 = _; omega)]
  rw [sum_hot, sum_feat m c (fun k => a1 m c (ix3 b s k)), offs]
  have e : R.val % 3200 % 200 = s.val := by omega
  unfold spec
  rw [e]
  congr 1
  by_cases h : o.val < 120
  · simp only [dif_pos h, add_zero]
  · simp only [dif_neg h, zero_add]

/-- The kernel's result. -/
theorem result_apply (b : Fin 1024) (s : Fin 200) (o : Fin 128) :
    (resultOf m c : S1024x200x128.Idx → EReal) (ix3 b s o) = spec (a0 m c) (a1 m c) (a2 m c) (a3 m c) lit0t b s o := by
  refine (shapeCast_apply _ _ _ (ix2 (⟨b.val * 200 + s.val, by omega⟩ : Fin 204800) o) (by
    rw [Shape.rowMajor_val_three, Shape.rowMajor_val_two]
    rfl)).trans ?_
  exact out_apply m c b s o _ rfl

end Cert.Hand
-- ==== Proof.Value.Reference.lean ====
/-
  The reference's result at an entry, for words below 27: the embedding's row taken, six features, the other features'
  two combinations, and the offset.
-/
module

public import proofs.«01_k».proof.Proof.Gen.ReferenceIdeal.Run
public import proofs.«01_k».proof.Proof.Value.Spec
public import Idealize.ShloMosaic.Lib.ReduceAll
public import Idealize.ShloMosaic.Lib.Pipeline.Value

@[expose] public section

noncomputable section

namespace Cert.Hand.Ref

open Cert.ReferenceIdeal Cert.ReferenceIdeal.Gen
open Idealize.ShloMosaic Idealize.ShloMosaic.TcCoe Idealize.ShloMosaic.ValueIdx

/-- The words as the rows' starts: a negative word wraps. -/
def starts (x0 : IVec S1024x200 32) : IVec S1024x200x1 32 :=
  broadcastInDim S1024x200x1 ![0, 1] bcast_S1024x200_S1024x200x1_0_1
    (select (cmpi .slt x0 (broadcastInDim S1024x200 ![] bcast_S_S1024x200 (constantI S_ 32 0#32)))
      (addi x0 (broadcastInDim S1024x200 ![] bcast_S_S1024x200 (constantI S_ 32 27#32))) x0)

/-- Whether a start is in the table. -/
def inside (x0 : IVec S1024x200 32) : IVec S1024x200 1 :=
  Host.reduce IntOp.andi (andi (cmpi .sge (starts x0) (broadcastInDim S1024x200x1 ![] bcast_S_S1024x200x1 (constantI S_ 32 0#32)))
    (cmpi .sle (starts x0) (broadcastInDim S1024x200x1 ![0, 1, 2] bcast_S1x1x1_S1024x200x1_0_1_2 (broadcastInDim S1x1x1 ![2] bcast_S1_S1x1x1_2 (constantI S1 32 26#32)))))
    (constantI S_ 1 1#1) reducesTo_S1024x200x1_S1024x200_d2 h_S_

/-- The embedded residues. -/
def taken (x0 : IVec S1024x200 32) (x2 : FVec Ideal S27x120 .f32) : FVec Ideal S1024x200x120 .f32 :=
  select (broadcastInDim S1024x200x120 ![0, 1] bcast_S1024x200_S1024x200x120_0_1 (inside x0))
    (Host.gather gather_S27x120_S1024x200x1_S1024x200x120_2_0_n_n_0_2_1120 x2 (starts x0))
    (broadcastInDim S1024x200x120 ![] bcast_S_S1024x200x120 (constant (F := Ideal) S_ .f32 0x7FC00000#32))

/-- The two combinations. -/
def combos (x1 : FVec Ideal S1024x200x109 .f32) (x3 : FVec Ideal S2x103 .f32) : FVec Ideal S1024x200x2 .f32 :=
  Host.dotGeneral dot_S1024x200x103_S2x103_S1024x200x2_2_1_01_0_n_n none
    (extractStridedSlice S1024x200x103 ![0, 0, 6] x1 slices_S1024x200x109_S1024x200x103_0_0_6) x3

/-- The eight feature columns. -/
def eight (x1 : FVec Ideal S1024x200x109 .f32) (x3 : FVec Ideal S2x103 .f32) : FVec Ideal S1024x200x8 .f32 :=
  concatenate S1024x200x8 2 [⟨S1024x200x6, extractStridedSlice S1024x200x6 ![0, 0, 0] x1 slices_S1024x200x109_S1024x200x6_0_0_0⟩,
    ⟨S1024x200x2, combos x1 x3⟩] concatenates_S1024x200x6_S1024x200x2_S1024x200x8_d2

/-- The reference's result. -/
def refOut (x0 : IVec S1024x200 32) (x1 : FVec Ideal S1024x200x109 .f32) (x2 : FVec Ideal S27x120 .f32) (x3 : FVec Ideal S2x103 .f32) :
    FVec Ideal S1024x200x128 .f32 :=
  addf (concatenate S1024x200x128 2 [⟨S1024x200x120, taken x0 x2⟩, ⟨S1024x200x8, eight x1 x3⟩] concatenates_S1024x200x120_S1024x200x8_S1024x200x128_d2)
    (broadcastInDim S1024x200x128 ![0, 1, 2] bcast_S1x200x128_S1024x200x128_0_1_2 (fun i => FloatOps.ofBits .f32 (lit0 (S1x200x128.rowMajor i))))

/-! ## The parts at an entry -/

theorem toInt_small (a : BitVec 32) (h : a.toNat < 27) : a.toInt = (a.toNat : Int) := by
  rw [BitVec.toInt_eq_toNat_cond, if_pos (by omega)]

/-- A word that is not negative is its own start. -/
theorem starts_apply (x0 : IVec S1024x200 32) (b : Fin 1024) (s : Fin 200) (z : Fin 1) (h : (x0 (ix2 b s)).toNat < 27) :
    starts x0 (ix3 b s z) = x0 (ix2 b s) := by
  unfold starts
  refine (broadcastInDim_apply _ _ _ _ (ix2 b s) (fun a => match a with | ⟨0, _⟩ => rfl | ⟨1, _⟩ => rfl)).trans ?_
  refine if_neg fun e => ?_
  have l : (x0 (ix2 b s)).toInt < (0#32 : BitVec 32).toInt := IntOp.cmpi_slt.1 e
  rw [toInt_small _ h, show (0#32 : BitVec 32).toInt = 0 by decide] at l
  omega

/-- Every start is inside. -/
theorem inside_apply (x0 : IVec S1024x200 32) (h : ∀ y, (x0 y).toNat < 27) (y : S1024x200.Idx) : inside x0 y = 1#1 := by
  unfold inside
  refine Host.reduce_andi_one _ _ _ _ _ rfl fun i => ?_
  have e : starts x0 i = x0 (ix2 (i 0) (i 1)) := by
    rw [eq_ix3 i]
    exact starts_apply x0 _ _ _ (h _)
  refine IntOp.andi_eq_one.2 ⟨IntOp.cmpi_sge.2 ?_, IntOp.cmpi_sle.2 ?_⟩
  · show (0#32 : BitVec 32).toInt ≤ (starts x0 i).toInt
    rw [e, toInt_small _ (h _), show (0#32 : BitVec 32).toInt = 0 by decide]
    omega
  · show (starts x0 i).toInt ≤ (26#32 : BitVec 32).toInt
    have := h (ix2 (i 0) (i 1))
    rw [e, toInt_small _ (h _), show (26#32 : BitVec 32).toInt = 26 by decide]
    omega

/-- The gather reads the start's row, the start clamped into the table. -/
theorem gather_apply (x2 : FVec Ideal S27x120 .f32) (idx : IVec S1024x200x1 32) (b : Fin 1024) (s : Fin 200) (o : Fin 120) :
    Host.gather gather_S27x120_S1024x200x1_S1024x200x120_2_0_n_n_0_2_1120 x2 idx (ix3 b s o)
      = x2 (ix2 ⟨min (idx (ix3 b s (0 : Fin 1))).toInt.toNat 26, by omega⟩ o) := by
  unfold Host.gather
  congr 1
  funext a
  match a with
  | ⟨0, _⟩ =>
    refine Fin.ext ?_
    show GatherDims.start _ _ idx 0 + GatherDims.batchCoord _ _ 0 + GatherDims.offCoord _ _ 0 = _
    have e : GatherDims.siIdx gather_S27x120_S1024x200x1_S1024x200x120_2_0_n_n_0_2_1120 (ix3 b s o) ⟨0, by decide⟩ = ix3 b s (0 : Fin 1) := by
      funext z
      match z with
      | ⟨0, _⟩ => rfl
      | ⟨1, _⟩ => rfl
      | ⟨2, _⟩ => rfl
    refine Eq.trans ?_ (congrArg (fun z => min (idx z).toInt.toNat 26) e)
    rfl
  | ⟨1, _⟩ =>
    refine Fin.ext ?_
    have e0 : GatherDims.start gather_S27x120_S1024x200x1_S1024x200x120_2_0_n_n_0_2_1120 (ix3 b s o) idx 1 = 0 := dif_neg (by decide)
    have e1 : GatherDims.batchCoord gather_S27x120_S1024x200x1_S1024x200x120_2_0_n_n_0_2_1120 (ix3 b s o) 1 = 0 := dif_neg (by decide)
    have e2 : GatherDims.offCoord gather_S27x120_S1024x200x1_S1024x200x120_2_0_n_n_0_2_1120 (ix3 b s o) 1 = o.val := rfl
    show GatherDims.start _ _ idx 1 + GatherDims.batchCoord _ _ 1 + GatherDims.offCoord _ _ 1 = o.val
    rw [e0, e1, e2, Nat.zero_add]

theorem taken_apply (x0 : IVec S1024x200 32) (x2 : FVec Ideal S27x120 .f32) (h : ∀ y, (x0 y).toNat < 27) (b : Fin 1024) (s : Fin 200) (o : Fin 120) :
    taken x0 x2 (ix3 b s o) = x2 (ix2 ⟨(x0 (ix2 b s)).toNat, h _⟩ o) := by
  unfold taken
  have e : broadcastInDim S1024x200x120 ![0, 1] bcast_S1024x200_S1024x200x120_0_1 (inside x0) (ix3 b s o) = 1#1 := by
    refine (broadcastInDim_apply _ _ _ _ (ix2 b s) ?_).trans (inside_apply x0 h _)
    exact fun a => match a with | ⟨0, _⟩ => rfl | ⟨1, _⟩ => rfl
  rw [select_apply, e, select_one]
  refine (gather_apply x2 _ b s o).trans ?_
  refine congrArg (fun v => x2 (ix2 v o)) (Fin.ext ?_)
  have := h (ix2 b s)
  show min (starts x0 (ix3 b s (0 : Fin 1))).toInt.toNat 26 = _
  rw [starts_apply x0 b s 0 (h _), toInt_small _ (h _), Int.toNat_natCast]
  exact Nat.min_eq_left (by omega)

theorem combos_apply (x1 : FVec Ideal S1024x200x109 .f32) (x3 : FVec Ideal S2x103 .f32) (b : Fin 1024) (s : Fin 200) (q : Fin 2) :
    (combos x1 x3 : S1024x200x2.Idx → EReal) (ix3 b s q) = ∑ k : Fin 103, x1 (ix3 b s ⟨6 + k.val, by omega⟩) * x3 (ix2 q k) := by
  unfold combos
  simp only [Host.dotGeneral]
  rw [Ideal.dotGeneral_apply]
  rw [← Equiv.sum_comp (contrEquiv1 dot_S1024x200x103_S2x103_S1024x200x2_2_1_01_0_n_n 103 rfl rfl).symm]
  refine Finset.sum_congr rfl fun k _ => ?_
  congr 1
  · refine (extractStridedSlice_apply _ _ _ _ (ix3 b s (⟨6 + k.val, by omega⟩ : Fin 109)) ?_)
    exact fun a => match a with
      | ⟨0, _⟩ => (Nat.zero_add _).symm
      | ⟨1, _⟩ => (Nat.zero_add _).symm
      | ⟨2, _⟩ => rfl
  · congr 1
    funext a
    match a with
    | ⟨0, _⟩ => rfl
    | ⟨1, _⟩ => rfl

theorem eight_low (x1 : FVec Ideal S1024x200x109 .f32) (x3 : FVec Ideal S2x103 .f32) (b : Fin 1024) (s : Fin 200) (q : Fin 8) (h : q.val < 6) :
    eight x1 x3 (ix3 b s q) = x1 (ix3 b s ⟨q.val, by omega⟩) := by
  unfold eight
  refine (concatenate_pair_apply_left (s₁ := S1024x200x6) (s₂ := S1024x200x2) (t := S1024x200x8) (2 : Fin 3) _ _ _ _ rfl (ix3 b s (⟨q.val, h⟩ : Fin 6)) ?_).trans ?_
  · exact fun a => match a with | ⟨0, _⟩ => rfl | ⟨1, _⟩ => rfl | ⟨2, _⟩ => rfl
  · refine (extractStridedSlice_apply _ _ _ _ (ix3 b s (⟨q.val, by omega⟩ : Fin 109)) ?_)
    exact fun a => match a with
      | ⟨0, _⟩ => (Nat.zero_add _).symm
      | ⟨1, _⟩ => (Nat.zero_add _).symm
      | ⟨2, _⟩ => (Nat.zero_add _).symm

theorem eight_high (x1 : FVec Ideal S1024x200x109 .f32) (x3 : FVec Ideal S2x103 .f32) (b : Fin 1024) (s : Fin 200) (q : Fin 8) (h : ¬ q.val < 6) :
    eight x1 x3 (ix3 b s q) = combos x1 x3 (ix3 b s ⟨q.val - 6, by omega⟩) := by
  unfold eight
  refine (concatenate_pair_apply_right (s₁ := S1024x200x6) (s₂ := S1024x200x2) (t := S1024x200x8) (2 : Fin 3) _ _ _ _ rfl rfl (ix3 b s (⟨q.val - 6, by omega⟩ : Fin 2)) ?_ ?_)
  · exact fun a => match a with | ⟨0, _⟩ => fun _ => rfl | ⟨1, _⟩ => fun _ => rfl | ⟨2, _⟩ => fun e => (e rfl).elim
  · show q.val - 6 + 6 = q.val
    omega

/-- The reference's result. -/
theorem ref_apply (x0 : IVec S1024x200 32) (x1 : FVec Ideal S1024x200x109 .f32) (x2 : FVec Ideal S27x120 .f32) (x3 : FVec Ideal S2x103 .f32)
    (h : ∀ y, (x0 y).toNat < 27) (b : Fin 1024) (s : Fin 200) (o : Fin 128) :
    refOut x0 x1 x2 x3 (ix3 b s o) = spec x0 x1 x2 x3 lit0t b s o := by
  unfold refOut spec
  rw [addf_apply]
  refine congrArg₂ (fun x y : EReal => x + y) ?_ ?_
  · by_cases ho : o.val < 120
    · rw [dif_pos ho, dif_pos (h _)]
      refine (concatenate_pair_apply_left (s₁ := S1024x200x120) (s₂ := S1024x200x8) (t := S1024x200x128) (2 : Fin 3) _ _ _ _ rfl (ix3 b s (⟨o.val, ho⟩ : Fin 120)) ?_).trans ?_
      · exact fun a => match a with | ⟨0, _⟩ => rfl | ⟨1, _⟩ => rfl | ⟨2, _⟩ => rfl
      · exact taken_apply x0 x2 h b s _
    · rw [dif_neg ho]
      refine (concatenate_pair_apply_right (s₁ := S1024x200x120) (s₂ := S1024x200x8) (t := S1024x200x128) (2 : Fin 3) _ _ _ _ rfl rfl (ix3 b s (⟨o.val - 120, by omega⟩ : Fin 8)) ?_ ?_).trans ?_
      · exact fun a => match a with | ⟨0, _⟩ => fun _ => rfl | ⟨1, _⟩ => fun _ => rfl | ⟨2, _⟩ => fun e => (e rfl).elim
      · show o.val - 120 + 120 = o.val
        omega
      · by_cases ho' : o.val < 126
        · rw [dif_pos ho']
          exact eight_low x1 x3 b s _ (by show o.val - 120 < 6; omega)
        · rw [dif_neg ho']
          refine (eight_high x1 x3 b s _ (by show ¬ o.val - 120 < 6; omega)).trans ?_
          refine (combos_apply x1 x3 b s _).trans ?_
          refine Finset.sum_congr rfl fun k _ => ?_
          refine congrArg (fun z => (x1 (ix3 b s ⟨6 + k.val, by omega⟩) : EReal) * x3 (ix2 z k)) (Fin.ext ?_)
          show o.val - 120 - 6 = o.val - 126
          omega
  · refine (broadcastInDim_apply _ _ _ _ (ix3 (0 : Fin 1) s o) (fun a => match a with | ⟨0, _⟩ => rfl | ⟨1, _⟩ => rfl | ⟨2, _⟩ => rfl)).trans ?_
    show Ideal.ofBits .f32 (lit0t (S1x200x128.rowMajor (ix3 (0 : Fin 1) s o)).val) = _
    rw [Shape.rowMajor_val_three]
    show Ideal.ofBits .f32 (lit0t ((0 * 200 + s.val) * 128 + o.val)) = _
    rw [Nat.zero_mul, Nat.zero_add]

end Cert.Hand.Ref
-- ==== Proof.Tables.lean ====
/-
  The table of position offsets is written out in both programs; the two are one table.
-/
module

public import proofs.«01_k».proof.KernelIdeal
public import proofs.«01_k».proof.ReferenceIdeal

@[expose] public section

set_option maxHeartbeats 0

noncomputable section

namespace Cert.Hand

/-- The kernel's table and the reference's hold the same words. -/
theorem lit0t_eq (i : Nat) : Cert.KernelIdeal.lit0t i = Cert.ReferenceIdeal.lit0t i := rfl

end Cert.Hand
-- ==== Proof.Value.Agree.lean ====
/-
  The two programs' results agree: both are the same family of entries.
-/
module

public import proofs.«01_k».proof.Proof.Value.Kernel
public import proofs.«01_k».proof.Proof.Value.Reference
public import proofs.«01_k».proof.Proof.Tables

@[expose] public section

noncomputable section

namespace Cert.Hand

open Idealize.ShloMosaic Idealize.ShloMosaic.TcCoe Idealize.ShloMosaic.ValueIdx

/-- One table of offsets, so one family. -/
theorem spec_tables (x0 : (⟨2, ![1024, 200]⟩ : Shape).Idx → BitVec 32) (x1 : (⟨3, ![1024, 200, 109]⟩ : Shape).Idx → EReal)
    (x2 : (⟨2, ![27, 120]⟩ : Shape).Idx → EReal) (x3 : (⟨2, ![2, 103]⟩ : Shape).Idx → EReal) :
    spec x0 x1 x2 x3 Cert.KernelIdeal.lit0t = spec x0 x1 x2 x3 Cert.ReferenceIdeal.lit0t := by
  rw [funext lit0t_eq]

/-- The kernel's array is the reference's, when every word is below 27. -/
theorem agree (m : (ℓ : Loc Cert.KernelIdeal.nD Cert.KernelIdeal.τ Cert.KernelIdeal.sig) → Buf (Elt Ideal) ℓ) (c : Dev Cert.KernelIdeal.nD)
    (h : ∀ y, (a0 m c y).toNat < 27) :
    Ref.refOut (a0 m c) (a1 m c) (a2 m c) (a3 m c) = Cert.KernelIdeal.Hand.resultOf m c :=
  (eq_flat _ _ (Ref.ref_apply (a0 m c) (a1 m c) (a2 m c) (a3 m c) h)).trans
    ((congrArg flat (spec_tables (a0 m c) (a1 m c) (a2 m c) (a3 m c)).symm).trans
      (eq_flat _ _ (result_apply m c)).symm)

end Cert.Hand
-- ==== Proof.Value.InRange.lean ====
/-
  The precondition read back: every residue word, as a number, is below 27.
-/
module

public import proofs.«01_k».proof.Pre_in_vocabulary
public import Idealize.ShloMosaic.Lib.ReduceAll
public import Idealize.ShloMosaic.Lib.ValueIdx

@[expose] public section

noncomputable section

namespace Cert.Pre_in_vocabulary

open Idealize.ShloMosaic Idealize.ShloMosaic.ValueIdx

theorem facts : Facts where
  bcast_S_S1024x200 := by decide
  reducesTo_S1024x200_S_d0_1 := by decide
  h_S_ := by decide

attribute [local instance] facts

/-- Both comparisons hold of every word, so it is one of the 27. -/
theorem in_range {F : FTy → Type} [FloatOps F] (x0 : IVec S1024x200 32) (x1 : FVec F S1024x200x109 .f32) (x2 : FVec F S27x120 .f32)
    (x3 : FVec F S2x103 .f32) (h : fn x0 x1 x2 x3 = fun _ => 1#1) (y : S1024x200.Idx) : (x0 y).toNat < 27 := by
  haveI : Subsingleton S_.Idx := ⟨fun a b => funext fun k => k.elim0⟩
  have e := Host.reduce_andi_all _ _ _ _ (Shape.Idx.first Facts.h_S_) (congrFun h (Shape.Idx.first Facts.h_S_)) y
  obtain ⟨e0, e1⟩ := IntOp.andi_eq_one.1 e
  have l : (0#32 : BitVec 32).toInt ≤ (x0 y).toInt := IntOp.cmpi_sge.1 e0
  have u : (x0 y).toInt < (27#32 : BitVec 32).toInt := IntOp.cmpi_slt.1 e1
  rw [show (0#32 : BitVec 32).toInt = 0 by decide] at l
  rw [show (27#32 : BitVec 32).toInt = 27 by decide] at u
  have := (x0 y).isLt
  rw [BitVec.toInt_eq_toNat_cond] at l u
  split at l <;> split at u <;> omega

end Cert.Pre_in_vocabulary
-- ==== Proof.lean ====
/-
  The proof of `Cert.Claim`: each program runs, keeps its arguments and ends with every counter at zero; and over the
  extended reals, when every residue word is one of the 27, the kernel's array is the reference's.
-/
module

public import proofs.«01_k».proof.Defs
public import proofs.«01_k».proof.Proof.Kernel.Final
public import proofs.«01_k».proof.Proof.KernelIdeal.Final
public import proofs.«01_k».proof.Proof.Value.Agree
public import proofs.«01_k».proof.Proof.Value.InRange
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_in_vocabulary.facts

theorem kernel_frame : Cert.quiescent_Kernel := fun m g _ =>
  (θ_run _ _ _).mono (fun _ h => ⟨fun c => (h.1 c).2, h.2⟩) (Cert.Kernel.Hand.run_end m g)

theorem kernelIdeal_frame : Cert.quiescent_KernelIdeal := fun m g _ =>
  (θ_run _ _ _).mono (fun _ h => ⟨fun c => (h.1 c).2, h.2⟩) (Cert.KernelIdeal.Hand.run_end m g)

theorem reference_frame : Cert.quiescent_ReferenceIdeal := fun m g _ =>
  (θ_run _ _ _).mono (fun r h => ⟨fun c => (h c).2, sem_eq_zero_of_no_sems (by decide) r.2⟩) (Cert.ReferenceIdeal.Value.run m g)

theorem values : Cert.algebraic_KernelIdeal_ReferenceIdeal_pre_in_vocabulary := by
  intro m g m' g' hpre hargs
  refine ⟨fun c => Cert.KernelIdeal.Hand.resultOf m c, ?_, ?_⟩
  · exact (θ_run _ _ _).mono (fun _ h => h.1) (Cert.KernelIdeal.Hand.run_end m g)
  · refine (θ_run _ _ _).mono (fun r h c => ⟨(h c).1.trans ?_, (h c).2⟩) (Cert.ReferenceIdeal.Value.run m' g')
    obtain ⟨e0, e1, e2, e3⟩ := hargs c
    rw [e0, e1, e2, e3]
    exact Cert.Hand.agree m c (Cert.Pre_in_vocabulary.in_range _ _ _ _ (hpre c))

theorem claim : Cert.Claim :=
  ⟨Cert.Kernel.Gen.facts, Cert.KernelIdeal.Gen.facts, Cert.ReferenceIdeal.Gen.facts, Cert.Pre_in_vocabulary.facts,
    kernel_frame, kernelIdeal_frame, fun m g _ => kernelIdeal_frame m g trivial,
    reference_frame, fun m g _ => reference_frame m g trivial, trivial, values⟩

end Cert.Proof

end
